-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v10) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v7_0)) (v1 : (c : Dev Cert.Kernel.nD) → Buf (Elt Bits) ((c.tc : Thread Cert.Kernel.nD Cert.Kernel.τ).loc Cert.Kernel.main_v8)) (v2 : (c : Dev Cert.Kernel.nD) → Buf (Elt Bits) ((c.tc : Thread Cert.Kernel.nD Cert.Kernel.τ).loc Cert.Kernel.main_v7_2)) (v3 : (c : Dev Cert.Kernel.nD) → Buf (Elt Bits) ((c.tc : Thread Cert.Kernel.nD Cert.Kernel.τ).loc Cert.Kernel.main_v7_3)) (v4 : (c : Dev Cert.Kernel.nD) → Buf (Elt Bits) ((c.tc : Thread Cert.Kernel.nD Cert.Kernel.τ).loc Cert.Kernel.main_v9)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v7_0) = v0 c
          ∧ r.2.mem ((c.tc : Thread Cert.Kernel.nD Cert.Kernel.τ).loc Cert.Kernel.main_v8) = v1 c
          ∧ r.2.mem ((c.tc : Thread Cert.Kernel.nD Cert.Kernel.τ).loc Cert.Kernel.main_v7_2) = v2 c
          ∧ r.2.mem ((c.tc : Thread Cert.Kernel.nD Cert.Kernel.τ).loc Cert.Kernel.main_v7_3) = v3 c
          ∧ r.2.mem ((c.tc : Thread Cert.Kernel.nD Cert.Kernel.τ).loc Cert.Kernel.main_v9) = v4 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_v2) = v1 c
          ∧ r.2.mem ((c.tc : Thread Cert.Reference.nD Cert.Reference.τ).loc Cert.Reference.main_v4) = v2 c
          ∧ r.2.mem ((c.tc : Thread Cert.Reference.nD Cert.Reference.τ).loc Cert.Reference.main_v7) = v3 c
          ∧ r.2.mem ((c.tc : Thread Cert.Reference.nD Cert.Reference.τ).loc Cert.Reference.main_v10) = v4 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1048576 : Shape := ⟨1, ![1048576]⟩
abbrev S100000x64 : Shape := ⟨2, ![100000, 64]⟩
abbrev S64x2048x128 : Shape := ⟨3, ![64, 2048, 128]⟩
abbrev S16 : Shape := ⟨1, ![16]⟩
abbrev S2x16 : Shape := ⟨2, ![2, 16]⟩
abbrev S32 : Shape := ⟨1, ![32]⟩
abbrev S2x3x16 : Shape := ⟨3, ![2, 3, 16]⟩
abbrev S96 : Shape := ⟨1, ![96]⟩
abbrev S144 : Shape := ⟨1, ![144]⟩
abbrev S64 : Shape := ⟨1, ![64]⟩
abbrev S_ : Shape := ⟨0, ![]⟩
abbrev S1 : Shape := ⟨1, ![1]⟩
abbrev S3 : Shape := ⟨1, ![3]⟩
abbrev S2x3 : Shape := ⟨2, ![2, 3]⟩
abbrev S2x2x4 : Shape := ⟨3, ![2, 2, 4]⟩
abbrev S2x2x3 : Shape := ⟨3, ![2, 2, 3]⟩
abbrev S1x3 : Shape := ⟨2, ![1, 3]⟩
abbrev S4 : Shape := ⟨1, ![4]⟩
abbrev S1x1x4 : Shape := ⟨3, ![1, 1, 4]⟩
abbrev S1x1x3 : Shape := ⟨3, ![1, 1, 3]⟩
abbrev S3x2 : Shape := ⟨2, ![3, 2]⟩
abbrev S2x3x2 : Shape := ⟨3, ![2, 3, 2]⟩

abbrev nBuf : Table → Nat
  | .hbm => 17
  | .local .tc .vmem => 6
  | .local .scScalar .smem => 2
  | _ => 0

abbrev bufTy : (tb : Table) → Fin (nBuf tb) → BufTy
  | .hbm, ⟨0, _⟩ => ⟨S1048576, .f32⟩
  | .hbm, ⟨1, _⟩ => ⟨S100000x64, .f32⟩
  | .hbm, ⟨2, _⟩ => ⟨S64x2048x128, .f32⟩
  | .hbm, ⟨3, _⟩ => ⟨S16, .f32⟩
  | .hbm, ⟨4, _⟩ => ⟨S2x16, .f32⟩
  | .hbm, ⟨5, _⟩ => ⟨S32, .f32⟩
  | .hbm, ⟨6, _⟩ => ⟨S2x3x16, .f32⟩
  | .hbm, ⟨7, _⟩ => ⟨S96, .f32⟩
  | .hbm, ⟨8, _⟩ => ⟨S144, .f32⟩
  | .hbm, ⟨9, _⟩ => ⟨S64, .f32⟩
  | .hbm, ⟨10, _⟩ => ⟨S3, .f32⟩
  | .hbm, ⟨11, _⟩ => ⟨S2x3, .f32⟩
  | .hbm, ⟨12, _⟩ => ⟨S2x3, .f32⟩
  | .hbm, ⟨13, _⟩ => ⟨S2x2x4, .f32⟩
  | .hbm, ⟨14, _⟩ => ⟨S2x2x3, .f32⟩
  | .hbm, ⟨15, _⟩ => ⟨S3x2, .f32⟩
  | .hbm, ⟨16, _⟩ => ⟨S2x3x2, .f32⟩
  | .local .tc .vmem, ⟨0, _⟩ => ⟨S64, .f32⟩
  | .local .tc .vmem, ⟨1, _⟩ => ⟨S3, .f32⟩
  | .local .tc .vmem, ⟨2, _⟩ => ⟨S2x3, .f32⟩
  | .local .tc .vmem, ⟨3, _⟩ => ⟨S2x3, .f32⟩
  | .local .tc .vmem, ⟨4, _⟩ => ⟨S2x2x4, .f32⟩
  | .local .tc .vmem, ⟨5, _⟩ => ⟨S2x2x3, .f32⟩
  | .local .scScalar .smem, ⟨0, _⟩ => ⟨S144, .f32⟩
  | .local .scScalar .smem, ⟨1, _⟩ => ⟨S64, .f32⟩
  | _, _ => ⟨S1048576, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v7_3 : Ref sig .tc := ⟨.hbm, 13, rfl⟩
abbrev main_v7_4 : Ref sig .tc := ⟨.hbm, 14, rfl⟩
abbrev main_v8 : Ref sig .tc := ⟨.hbm, 15, rfl⟩
abbrev main_v9 : Ref sig .tc := ⟨.hbm, 16, rfl⟩
abbrev main_v5_scs : Ref sig .scScalar := ⟨.hbm, 8, rfl⟩
abbrev main_v6_scs : Ref sig .scScalar := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc0_scratch0 : Ref sig .scScalar := ⟨.smem, 0, rfl⟩
abbrev cc0_scratch1 : Ref sig .scScalar := ⟨.smem, 1, rfl⟩
abbrev cc1_sem0_0 : DmaSem sig := 2
abbrev cc1_sem1_0 : DmaSem sig := 3
abbrev cc1_sem2_0 : DmaSem sig := 4
abbrev cc1_sem3_0 : DmaSem sig := 5
abbrev cc1_sem4_0 : DmaSem sig := 6
abbrev cc1_sem5_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev grid1 : Pipeline.Grid := .none

abbrev stage1_0 : Fin 1 → Memref sig .tc .vmem S64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2x2x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2x2x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S1048576 : Shape := ⟨1, ![1048576]⟩
abbrev S100000x64 : Shape := ⟨2, ![100000, 64]⟩
abbrev S64x2048x128 : Shape := ⟨3, ![64, 2048, 128]⟩
abbrev S3 : Shape := ⟨1, ![3]⟩
abbrev S3x2 : Shape := ⟨2, ![3, 2]⟩
abbrev S2x3 : Shape := ⟨2, ![2, 3]⟩
abbrev S_ : Shape := ⟨0, ![]⟩
abbrev S3x1 : Shape := ⟨2, ![3, 1]⟩
abbrev S1 : Shape := ⟨1, ![1]⟩
abbrev S1x1 : Shape := ⟨2, ![1, 1]⟩
abbrev S100000x2 : Shape := ⟨2, ![100000, 2]⟩
abbrev S3x2x1 : Shape := ⟨3, ![3, 2, 1]⟩
abbrev S1x1x1 : Shape := ⟨3, ![1, 1, 1]⟩
abbrev S2x64 : Shape := ⟨2, ![2, 64]⟩
abbrev S2x3x1 : Shape := ⟨3, ![2, 3, 1]⟩
abbrev S2x2x4 : Shape := ⟨3, ![2, 2, 4]⟩
abbrev S2x2048x4 : Shape := ⟨3, ![2, 2048, 4]⟩
abbrev S2x2x4x1 : Shape := ⟨4, ![2, 2, 4, 1]⟩
abbrev S1x1x1x1 : Shape := ⟨4, ![1, 1, 1, 1]⟩
abbrev S2x3x2 : Shape := ⟨3, ![2, 3, 2]⟩
abbrev S2x3x128 : Shape := ⟨3, ![2, 3, 128]⟩
abbrev S2x3x2x1 : Shape := ⟨4, ![2, 3, 2, 1]⟩

abbrev nBuf : Space → Nat
  | .hbm => 124
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S100000x64, .f32⟩
  | .hbm, ⟨2, _⟩ => ⟨S64x2048x128, .f32⟩
  | .hbm, ⟨3, _⟩ => ⟨S3, .i32⟩
  | .hbm, ⟨4, _⟩ => ⟨S3x2, .i32⟩
  | .hbm, ⟨5, _⟩ => ⟨S2x3, .i32⟩
  | .hbm, ⟨6, _⟩ => ⟨S_, .i32⟩
  | .hbm, ⟨7, _⟩ => ⟨S3, .i32⟩
  | .hbm, ⟨8, _⟩ => ⟨S3, .i1⟩
  | .hbm, ⟨9, _⟩ => ⟨S_, .i32⟩
  | .hbm, ⟨10, _⟩ => ⟨S3, .i32⟩
  | .hbm, ⟨11, _⟩ => ⟨S3, .i32⟩
  | .hbm, ⟨12, _⟩ => ⟨S3, .i32⟩
  | .hbm, ⟨13, _⟩ => ⟨S3x1, .i32⟩
  | .hbm, ⟨14, _⟩ => ⟨S1, .i32⟩
  | .hbm, ⟨15, _⟩ => ⟨S_, .i32⟩
  | .hbm, ⟨16, _⟩ => ⟨S3x1, .i32⟩
  | .hbm, ⟨17, _⟩ => ⟨S3x1, .i1⟩
  | .hbm, ⟨18, _⟩ => ⟨S1x1, .i32⟩
  | .hbm, ⟨19, _⟩ => ⟨S3x1, .i32⟩
  | .hbm, ⟨20, _⟩ => ⟨S3x1, .i1⟩
  | .hbm, ⟨21, _⟩ => ⟨S3x1, .i1⟩
  | .hbm, ⟨22, _⟩ => ⟨S_, .i1⟩
  | .hbm, ⟨23, _⟩ => ⟨S3, .i1⟩
  | .hbm, ⟨24, _⟩ => ⟨S3, .f32⟩
  | .hbm, ⟨25, _⟩ => ⟨S_, .f32⟩
  | .hbm, ⟨26, _⟩ => ⟨S3, .f32⟩
  | .hbm, ⟨27, _⟩ => ⟨S3, .f32⟩
  | .hbm, ⟨28, _⟩ => ⟨S100000x2, .f32⟩
  | .hbm, ⟨29, _⟩ => ⟨S_, .i32⟩
  | .hbm, ⟨30, _⟩ => ⟨S3x2, .i32⟩
  | .hbm, ⟨31, _⟩ => ⟨S3x2, .i1⟩
  | .hbm, ⟨32, _⟩ => ⟨S_, .i32⟩
  | .hbm, ⟨33, _⟩ => ⟨S3x2, .i32⟩
  | .hbm, ⟨34, _⟩ => ⟨S3x2, .i32⟩
  | .hbm, ⟨35, _⟩ => ⟨S3x2, .i32⟩
  | .hbm, ⟨36, _⟩ => ⟨S3x2x1, .i32⟩
  | .hbm, ⟨37, _⟩ => ⟨S1, .i32⟩
  | .hbm, ⟨38, _⟩ => ⟨S_, .i32⟩
  | .hbm, ⟨39, _⟩ => ⟨S3x2x1, .i32⟩
  | .hbm, ⟨40, _⟩ => ⟨S3x2x1, .i1⟩
  | .hbm, ⟨41, _⟩ => ⟨S1x1x1, .i32⟩
  | .hbm, ⟨42, _⟩ => ⟨S3x2x1, .i32⟩
  | .hbm, ⟨43, _⟩ => ⟨S3x2x1, .i1⟩
  | .hbm, ⟨44, _⟩ => ⟨S3x2x1, .i1⟩
  | .hbm, ⟨45, _⟩ => ⟨S_, .i1⟩
  | .hbm, ⟨46, _⟩ => ⟨S3x2, .i1⟩
  | .hbm, ⟨47, _⟩ => ⟨S3x2, .f32⟩
  | .hbm, ⟨48, _⟩ => ⟨S_, .f32⟩
  | .hbm, ⟨49, _⟩ => ⟨S3x2, .f32⟩
  | .hbm, ⟨50, _⟩ => ⟨S3x2, .f32⟩
  | .hbm, ⟨51, _⟩ => ⟨S2x64, .f32⟩
  | .hbm, ⟨52, _⟩ => ⟨S_, .i32⟩
  | .hbm, ⟨53, _⟩ => ⟨S2x3, .i32⟩
  | .hbm, ⟨54, _⟩ => ⟨S2x3, .i1⟩
  | .hbm, ⟨55, _⟩ => ⟨S_, .i32⟩
  | .hbm, ⟨56, _⟩ => ⟨S2x3, .i32⟩
  | .hbm, ⟨57, _⟩ => ⟨S2x3, .i32⟩
  | .hbm, ⟨58, _⟩ => ⟨S2x3, .i32⟩
  | .hbm, ⟨59, _⟩ => ⟨S2x3x1, .i32⟩
  | .hbm, ⟨60, _⟩ => ⟨S1, .i32⟩
  | .hbm, ⟨61, _⟩ => ⟨S_, .i32⟩
  | .hbm, ⟨62, _⟩ => ⟨S2x3x1, .i32⟩
  | .hbm, ⟨63, _⟩ => ⟨S2x3x1, .i1⟩
  | .hbm, ⟨64, _⟩ => ⟨S1x1x1, .i32⟩
  | .hbm, ⟨65, _⟩ => ⟨S2x3x1, .i32⟩
  | .hbm, ⟨66, _⟩ => ⟨S2x3x1, .i1⟩
  | .hbm, ⟨67, _⟩ => ⟨S2x3x1, .i1⟩
  | .hbm, ⟨68, _⟩ => ⟨S_, .i1⟩
  | .hbm, ⟨69, _⟩ => ⟨S2x3, .i1⟩
  | .hbm, ⟨70, _⟩ => ⟨S2x3, .f32⟩
  | .hbm, ⟨71, _⟩ => ⟨S_, .f32⟩
  | .hbm, ⟨72, _⟩ => ⟨S2x3, .f32⟩
  | .hbm, ⟨73, _⟩ => ⟨S2x3, .f32⟩
  | .hbm, ⟨74, _⟩ => ⟨S_, .i32⟩
  | .hbm, ⟨75, _⟩ => ⟨S2x2x4, .i32⟩
  | .hbm, ⟨76, _⟩ => ⟨S2x2048x4, .f32⟩
  | .hbm, ⟨77, _⟩ => ⟨S_, .i32⟩
  | .hbm, ⟨78, _⟩ => ⟨S2x2x4, .i32⟩
  | .hbm, ⟨79, _⟩ => ⟨S2x2x4, .i1⟩
  | .hbm, ⟨80, _⟩ => ⟨S_, .i32⟩
  | .hbm, ⟨81, _⟩ => ⟨S2x2x4, .i32⟩
  | .hbm, ⟨82, _⟩ => ⟨S2x2x4, .i32⟩
  | .hbm, ⟨83, _⟩ => ⟨S2x2x4, .i32⟩
  | .hbm, ⟨84, _⟩ => ⟨S2x2x4x1, .i32⟩
  | .hbm, ⟨85, _⟩ => ⟨S1, .i32⟩
  | .hbm, ⟨86, _⟩ => ⟨S_, .i32⟩
  | .hbm, ⟨87, _⟩ => ⟨S2x2x4x1, .i32⟩
  | .hbm, ⟨88, _⟩ => ⟨S2x2x4x1, .i1⟩
  | .hbm, ⟨89, _⟩ => ⟨S1x1x1x1, .i32⟩
  | .hbm, ⟨90, _⟩ => ⟨S2x2x4x1, .i32⟩
  | .hbm, ⟨91, _⟩ => ⟨S2x2x4x1, .i1⟩
  | .hbm, ⟨92, _⟩ => ⟨S2x2x4x1, .i1⟩
  | .hbm, ⟨93, _⟩ => ⟨S_, .i1⟩
  | .hbm, ⟨94, _⟩ => ⟨S2x2x4, .i1⟩
  | .hbm, ⟨95, _⟩ => ⟨S2x2x4, .f32⟩
  | .hbm, ⟨96, _⟩ => ⟨S_, .f32⟩
  | .hbm, ⟨97, _⟩ => ⟨S2x2x4, .f32⟩
  | .hbm, ⟨98, _⟩ => ⟨S2x2x4, .f32⟩
  | .hbm, ⟨99, _⟩ => ⟨S_, .i32⟩
  | .hbm, ⟨100, _⟩ => ⟨S2x3x2, .i32⟩
  | .hbm, ⟨101, _⟩ => ⟨S2x3x128, .f32⟩
  | .hbm, ⟨102, _⟩ => ⟨S_, .i32⟩
  | .hbm, ⟨103, _⟩ => ⟨S2x3x2, .i32⟩
  | .hbm, ⟨104, _⟩ => ⟨S2x3x2, .i1⟩
  | .hbm, ⟨105, _⟩ => ⟨S_, .i32⟩
  | .hbm, ⟨106, _⟩ => ⟨S2x3x2, .i32⟩
  | .hbm, ⟨107, _⟩ => ⟨S2x3x2, .i32⟩
  | .hbm, ⟨108, _⟩ => ⟨S2x3x2, .i32⟩
  | .hbm, ⟨109, _⟩ => ⟨S2x3x2x1, .i32⟩
  | .hbm, ⟨110, _⟩ => ⟨S1, .i32⟩
  | .hbm, ⟨111, _⟩ => ⟨S_, .i32⟩
  | .hbm, ⟨112, _⟩ => ⟨S2x3x2x1, .i32⟩
  | .hbm, ⟨113, _⟩ => ⟨S2x3x2x1, .i1⟩
  | .hbm, ⟨114, _⟩ => ⟨S1x1x1x1, .i32⟩
  | .hbm, ⟨115, _⟩ => ⟨S2x3x2x1, .i32⟩
  | .hbm, ⟨116, _⟩ => ⟨S2x3x2x1, .i1⟩
  | .hbm, ⟨117, _⟩ => ⟨S2x3x2x1, .i1⟩
  | .hbm, ⟨118, _⟩ => ⟨S_, .i1⟩
  | .hbm, ⟨119, _⟩ => ⟨S2x3x2, .i1⟩
  | .hbm, ⟨120, _⟩ => ⟨S2x3x2, .f32⟩
  | .hbm, ⟨121, _⟩ => ⟨S_, .f32⟩
  | .hbm, ⟨122, _⟩ => ⟨S2x3x2, .f32⟩
  | .hbm, ⟨123, _⟩ => ⟨S2x3x2, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v0 : Ref sig .tc := ⟨.hbm, 27, rfl⟩
abbrev main_v1 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v2 : Ref sig .tc := ⟨.hbm, 50, rfl⟩
abbrev main_v3 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v4 : Ref sig .tc := ⟨.hbm, 73, rfl⟩
abbrev main_c_2 : Ref sig .tc := ⟨.hbm, 74, rfl⟩
abbrev main_v5 : Ref sig .tc := ⟨.hbm, 75, rfl⟩
abbrev main_v6 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_cst : Ref sig .tc := ⟨.hbm, 96, rfl⟩
abbrev main_call3_v14 : Ref sig .tc := ⟨.hbm, 97, rfl⟩
abbrev main_v7 : Ref sig .tc := ⟨.hbm, 98, rfl⟩
abbrev main_c_3 : Ref sig .tc := ⟨.hbm, 99, rfl⟩
abbrev main_v8 : Ref sig .tc := ⟨.hbm, 100, rfl⟩
abbrev main_v9 : Ref sig .tc := ⟨.hbm, 101, rfl⟩
abbrev main_call4_c : Ref sig .tc := ⟨.hbm, 102, rfl⟩
abbrev main_call4_v0 : Ref sig .tc := ⟨.hbm, 103, rfl⟩
abbrev main_call4_v1 : Ref sig .tc := ⟨.hbm, 104, rfl⟩
abbrev main_call4_c_0 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_c_1 : Ref sig .tc := ⟨.hbm, 110, rfl⟩
abbrev main_call4_c_2 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_3 : Ref sig .tc := ⟨.hbm, 118, rfl⟩
abbrev main_call4_v12 : Ref sig .tc := ⟨.hbm, 119, rfl⟩
abbrev main_call4_v13 : Ref sig .tc := ⟨.hbm, 120, rfl⟩
abbrev main_call4_cst : Ref sig .tc := ⟨.hbm, 121, rfl⟩
abbrev main_call4_v14 : Ref sig .tc := ⟨.hbm, 122, rfl⟩
abbrev main_v10 : Ref sig .tc := ⟨.hbm, 123, rfl⟩

abbrev nD : Nat := 1
abbrev τ : Topo := Topo.v7x

variable {F : FTy → Type} [FloatOps F]
-- ==== Proof.Gather.lean ====
/-
  The SparseCore kernel of `KernelIdeal`: one scalar subcore fetches the packed 144-word window into its scalar memory, copies
  47 words of it to their places in a 64-word buffer, and writes that buffer out. This module sets up the launch (what the call
  hands the subcore and takes back) and proves the kernel's body.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.RegionArraysS
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions: the handshake semaphores are distinct and never scoped, no buffer is shared by tasks. -/
theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds are the left factor of the algebra. -/
abbrev EH : Emb UH (MT nD τ sig (HIx 1) (Elt F) ℕ UU ℕ) := embL

/-! ## The buffers -/

local notation "xW" => (Memref.whole Cert.KernelIdeal.main_v5_scs : Memref Cert.KernelIdeal.sig Kind.scScalar Space.hbm Cert.KernelIdeal.S144 EltTy.f32)
local notation "oW" => (Memref.whole Cert.KernelIdeal.main_v6_scs : Memref Cert.KernelIdeal.sig Kind.scScalar Space.hbm Cert.KernelIdeal.S64 EltTy.f32)
local notation "aW" => (Memref.whole Cert.KernelIdeal.cc0_scratch0 : Memref Cert.KernelIdeal.sig Kind.scScalar Space.smem Cert.KernelIdeal.S144 EltTy.f32)
local notation "bW" => (Memref.whole Cert.KernelIdeal.cc0_scratch1 : Memref Cert.KernelIdeal.sig Kind.scScalar Space.smem Cert.KernelIdeal.S64 EltTy.f32)
abbrev xLoc (d : Dev nD) : Loc nD τ sig := (SparseCore.T d).loc main_v5
abbrev oLoc (d : Dev nD) : Loc nD τ sig := (SparseCore.T d).loc main_v6

variable [FloatOps F]

abbrev xPts (d : Dev nD) (f : Buf (Elt F) (xLoc d)) : sProp 𝕄 := xLoc d ↦{fullShare} f
abbrev oPts (d : Dev nD) (f : Buf (Elt F) (oLoc d)) : sProp 𝕄 := oLoc d ↦{fullShare} f

/-- The window's word `s` and the output's word `t`, as indices of the two arrays. -/
def ixX (s : ℕ) (h : s < 144) : S144.Idx := fun | 0 => ⟨s, h⟩
def ixO (t : ℕ) (h : t < 64) : S64.Idx := fun | 0 => ⟨t, h⟩

/-- The kernel's table, the last store first: output word `p.1` is window word `p.2`. -/
def placed : List (ℕ × ℕ) :=
  [(59, 128), (58, 112), (57, 96), (56, 128), (55, 112), (54, 96),
   (53, 80), (52, 64), (51, 48), (50, 80), (49, 64), (48, 48),
   (47, 99), (46, 98), (45, 97), (44, 96), (43, 99), (42, 98), (41, 97), (40, 96),
   (39, 51), (38, 50), (37, 49), (36, 48), (35, 51), (34, 50), (33, 49), (32, 48),
   (27, 33), (26, 34), (25, 32), (24, 18), (23, 16), (22, 17),
   (21, 17), (20, 17), (19, 33), (18, 16), (17, 32), (16, 16),
   (2, 1), (1, 0), (0, 2)]

/-- The buffer `f` holds the window's words at the places the list `T` names (of its other words nothing is said). -/
def Holds (X : S144.Idx → Elt F .f32) (T : List (ℕ × ℕ)) (f : S64.Idx → Elt F .f32) : Prop :=
  ∀ p ∈ T, ∀ (ht : p.1 < 64) (hs : p.2 < 144), f (ixO p.1 ht) = X (ixX p.2 hs)

section Body

variable (d : Dev nD)

def coordsS (c : Fin (grid0.bound 0)) : grid0.Coords := fun | 0 => c | ⟨_ + 1, h⟩ => absurd h (Nat.not_lt.2 (Nat.le_add_left _ _))

abbrev c0cell (c : Fin τ.nSC) : GSem nD τ sig := (S d c, .dma cc0_scoped0.sem)
abbrev c1cell (c : Fin τ.nSC) : GSem nD τ sig := (S d c, .dma cc0_scoped1.sem)

omit [FloatOps F] in
/-- The subcore's own semaphores: the two its transfers use, and the rest. -/
theorem ownSems0_S (c : Fin τ.nSC) :
    (ownSems0 (S d c) : sProp 𝕄) = iprop(semVal (c0cell d c) 0 ∗ semVal (c1cell d c) 0
      ∗ bigSep (((ownCells (S d c)).erase (c0cell d c)).erase (c1cell d c)) fun g => semVal g 0) := by
  unfold SparseCore.Cfg.ownSems0
  rw [SparseCore.bigSep_erase' ((mem_ownCells (g := c0cell d c)).mpr ⟨rfl, by show (SemLoc.dma cc0_scoped0.sem : SemLoc sig).isScoped .scScalar = true; decide⟩),
    SparseCore.bigSep_erase' (Finset.mem_erase.mpr ⟨by simp [c0cell, c1cell]; decide, (mem_ownCells (g := c1cell d c)).mpr ⟨rfl, by
      show (SemLoc.dma cc0_scoped1.sem : SemLoc sig).isScoped .scScalar = true; decide⟩⟩)]

abbrev aRef (c : Fin τ.nSC) : DevRef τ sig := (Proc.scScalar c).devRef cc0_scratch0
abbrev bRef (c : Fin τ.nSC) : DevRef τ sig := (Proc.scScalar c).devRef cc0_scratch1

omit [FloatOps F] in
/-- The subcore's own buffers: its two scratch buffers, each at some contents, and the rest. -/
theorem ownBufs_S (c : Fin τ.nSC) :
    (ownBufs (S d c) : sProp 𝕄) = iprop((∃ f, (S d c).loc cc0_scratch0 ↦{fullShare} f) ∗ (∃ f, (S d c).loc cc0_scratch1 ↦{fullShare} f)
      ∗ bigSep (((ownRefs (τ := τ) (.scScalar c)).erase (aRef c)).erase (bRef c)) fun b => iprop(∃ f, ((d, b) : Loc nD τ sig) ↦{fullShare} f)) := by
  unfold SparseCore.Cfg.ownBufs
  rw [SparseCore.bigSep_erase' (SparseCore.Cfg.mem_ownRefs_of_owner (p := Proc.scScalar c) (b := aRef c) rfl),
    SparseCore.bigSep_erase' (Finset.mem_erase.mpr ⟨show bRef c ≠ aRef c by simp [aRef, bRef, Proc.devRef], SparseCore.Cfg.mem_ownRefs_of_owner (p := Proc.scScalar c) (b := bRef c) rfl⟩)]

omit [FloatOps F] in
theorem pts_x (c : Fin τ.nSC) (f : Buf (Elt F) (xLoc d)) : ((xW).view.loc (S d c) ↦{fullShare} f : sProp 𝕄) = xLoc d ↦{fullShare} f := by
  simp only [Memref.view_whole, View.set_whole]
omit [FloatOps F] in
theorem pts_o (c : Fin τ.nSC) (f : Buf (Elt F) (oLoc d)) : ((oW).view.loc (S d c) ↦{fullShare} f : sProp 𝕄) = oLoc d ↦{fullShare} f := by
  simp only [Memref.view_whole, View.set_whole]
omit [FloatOps F] in
theorem pts_a (c : Fin τ.nSC) (f : Buf (Elt F) ((S d c).loc cc0_scratch0)) :
    ((aW).view.loc (S d c) ↦{fullShare} f : sProp 𝕄) = (S d c).loc cc0_scratch0 ↦{fullShare} f := by
  simp only [Memref.view_whole, View.set_whole]
omit [FloatOps F] in
theorem pts_b (c : Fin τ.nSC) (f : Buf (Elt F) ((S d c).loc cc0_scratch1)) :
    ((bW).view.loc (S d c) ↦{fullShare} f : sProp 𝕄) = (S d c).loc cc0_scratch1 ↦{fullShare} f := by
  simp only [Memref.view_whole, View.set_whole]

omit [FloatOps F] in
/-- A word read from the subcore's copy of the window is the window's word. -/
theorem word_read (X fa : S144.Idx → Elt F .f32) (n : ℕ) (hn : n < 144) (h : ∀ a, (![n] : Fin 1 → ℕ) a + S1.size a ≤ S144.size a) (h1) :
    View.readAt (Elt F) (aW).view (Rect.unit (s := S144) ![n] S1.size h).toLoadRect
      (View.write (Elt F) (aW).view fa (ReadAs.same.apply (View.read (Elt F) (xW).view X)) Finset.univ) (Shape.Idx.first h1) = X (ixX n hn) := by
  simp only [Memref.view_whole, View.write_whole_univ]
  show X _ = X _
  congr 1
  funext a; fin_cases a; apply Fin.ext
  show n + 1 * 0 = n
  omega

omit [FloatOps F] in
/-- After one more word stored at place `n`, the buffer reads that word there and as before elsewhere. -/
theorem read_stored (f : S64.Idx → Elt F .f32) (t : ℕ) (ht : t < 64) (n : ℕ) (h : ∀ a, (![n] : Fin 1 → ℕ) a + S1.size a ≤ S64.size a) (w : Elt F .f32)
    (L : List (View.Piece (Elt F) S64 .f32)) :
    (bW).view.read (Elt F) ((bW).view.writes (Elt F) f (⟨Rect.unit (s := S64) ![n] S1.size h, fun _ => w⟩ :: L)) (ixO t ht)
      = if t = n then w else (bW).view.read (Elt F) ((bW).view.writes (Elt F) f L) (ixO t ht) := by
  by_cases e : t = n
  · subst e
    rw [if_pos rfl]
    have hi : ixO t ht = (Rect.unit (s := S64) ![t] S1.size h).emb (Shape.Idx.first (s := S1) (by decide)) := by
      funext a; fin_cases a; apply Fin.ext
      show t = t + 1 * 0
      omega
    rw [hi, View.read_writes_cons_emb]
  · rw [if_neg e, View.writes_cons, View.read_slice_write_of_not_mem]
    rw [Rect.map_emb_univ]
    intro hm
    have h2 : n ≤ t ∧ t < n + 1 := (Rect.mem_set_unit (s := S64) (inb := h).mp hm) 0
    omega

omit [FloatOps F] in
/-- Before any store the list of places is empty. -/
theorem holds_nil (X : S144.Idx → Elt F .f32) (f : S64.Idx → Elt F .f32) : Holds X [] f := fun _ hp => nomatch hp

omit [FloatOps F] in
/-- One more store, of window word `s` at a place `n` not stored before, adds that place to the list. -/
theorem holds_cons {X : S144.Idx → Elt F .f32} {f : S64.Idx → Elt F .f32} {n s : ℕ} {T : List (ℕ × ℕ)} {w : Elt F .f32}
    {h : ∀ a, (![n] : Fin 1 → ℕ) a + S1.size a ≤ S64.size a} {L : List (View.Piece (Elt F) S64 .f32)}
    (hw : ∀ hs, w = X (ixX s hs)) (hn : ∀ p ∈ T, p.1 ≠ n) (H : Holds X T ((bW).view.read (Elt F) ((bW).view.writes (Elt F) f L))) :
    Holds X ((n, s) :: T) ((bW).view.read (Elt F) ((bW).view.writes (Elt F) f (⟨Rect.unit (s := S64) ![n] S1.size h, fun _ => w⟩ :: L))) := by
  intro p hp ht hs
  rw [read_stored]
  rcases List.mem_cons.mp hp with rfl | hp
  · rw [if_pos rfl]; exact hw hs
  · rw [if_neg (hn p hp)]; exact H p hp ht hs

/-- The kernel on its scalar subcore: the window `X` is left as it was, and the output ends with the window's words at the table's places. -/
theorem body (c : Fin (grid0.bound 0)) (X : Buf (Elt F) (xLoc d)) (fo : Buf (Elt F) (oLoc d)) (O : CellTallies nD τ sig (HIx 1)) (W : Waits sig (HIx 1)) (hO : ∀ g, O g none = 0) :
    iprop(levAts (K (F := F)).L (K (F := F)).lev ∗ (xPts d X ∗ oPts d fo)
        ∗ scopedBufs (S d (c.castLE hcore0)) ∗ scopedSems0 (S d (c.castLE hcore0)) ∗ owes (S d (c.castLE hcore0)) O W)
      ⊢ wp frame (wpE (defs₀ (F := F)) 𝒱₀ (S d (c.castLE hcore0)) none) Set.univ
          (cc0__gather_kernel (coordsS c) xW (Memref.isWhole_whole _) oW (Memref.isWhole_whole _) aW (Memref.isWhole_whole _) bW (Memref.isWhole_whole _) cc0_scoped0 cc0_scoped1)
          fun _ => iprop((xPts d X ∗ ∃ f, ⌜Holds X placed f⌝ ∗ oPts d f) ∗ scopedBufs (S d (c.castLE hcore0)) ∗ scopedSems0 (S d (c.castLE hcore0))
            ∗ ∃ W', ⌜∀ p ∈ W', p ∈ W ∨ p.2 = none⌝ ∗ owes (S d (c.castLE hcore0)) O W') := by
  simp only [cc0__gather_kernel_eq_skeleton]; unfold cc0__gather_kernel_skel
  rw [(K (F := F)).scopedBufs_S launch_facts d _, SparseCore.Cfg.scopedSems0_S (Val := Elt F) d _, ownSems0_S, ownBufs_S]
  iintro ⟨#Hlv, ⟨Hx, Ho⟩, ⟨⟨⟨%fa, Ha⟩, ⟨%fb, Hb⟩, Hbr⟩, Hbt⟩, ⟨⟨Hs0, Hs1, Hsr⟩, Hst⟩, HO⟩
  ihave Hmw := ((K (F := F)).mayWaits_none (thr := S d (c.castLE hcore0)) hO) $$ Hlv
  ihave Hx' := (Entails.of_eq (pts_x (F := F) d (c.castLE hcore0) _).symm) $$ Hx
  ihave Ho' := (Entails.of_eq (pts_o (F := F) d (c.castLE hcore0) _).symm) $$ Ho
  ihave Ha' := (Entails.of_eq (pts_a (F := F) d (c.castLE hcore0) _).symm) $$ Ha
  ihave Hb' := (Entails.of_eq (pts_b (F := F) d (c.castLE hcore0) _).symm) $$ Hb
  sl_open_parts
  sl_exec
  sl_step
  isplitl [Hx' Ho']
  · isplitl [Hx']; · iapply (Entails.of_eq (pts_x (F := F) d _ _)); iexact Hx'
    iexists _; isplitr; swap
    · iapply (Entails.of_eq (pts_o (F := F) d _ _)); iexact Ho'
    ipureintro
    rw [show View.write (Elt F) (oW).view fo (body.sl.dma129 d c X fa fb) Finset.univ = body.sl.dma129 d c X fa fb from View.write_whole_univ _ _ _]
    show Holds X placed ((bW).view.read (Elt F) ((bW).view.writes (Elt F) fb (body.sl.Hb'_43 d c X fa)))
    unfold placed body.sl.Hb'_43
    iterate 43 refine holds_cons (fun hs => word_read X fa _ hs _ _) (by decide) ?_
    exact holds_nil _ _
  isplitl [Ha' Hb' Hbr Hbt]
  · isplitr [Hbt]
    · isplitl [Ha']; · iexists _; iapply (Entails.of_eq (pts_a (F := F) d _ _)); iexact Ha'
      isplitl [Hb']; · iexists _; iapply (Entails.of_eq (pts_b (F := F) d _ _)); iexact Hb'
      iexact Hbr
    · iexact Hbt
  isplitl [Hs0 Hs1 Hsr Hst]
  · isplitr [Hst]
    · isplitl [Hs0]; · iexact Hs0
      isplitl [Hs1]; · iexact Hs1
      iexact Hsr
    · iexact Hst
  iexists _; isplitr; swap
  · iexact HO
  ipureintro
  intro p hp
  rcases Finset.mem_insert.mp hp with rfl | hp
  · exact .inr rfl
  rcases Finset.mem_insert.mp hp with rfl | hp
  · exact .inr rfl
  · exact .inl hp

end Body

/-! ## What the call hands the subcore and takes back -/

variable (X : (d : Dev nD) → Buf (Elt F) (xLoc d))

/-- Handed over: the window at `X`, and the output at whatever it holds. -/
def stRes (d : Dev nD) : sProp 𝕄 := iprop(xPts d (X d) ∗ ∃ f, oPts d f)
/-- Taken back: the window as it was, and the output with the window's words at the table's places. -/
def dnRes (d : Dev nD) : sProp 𝕄 := iprop(xPts d (X d) ∗ ∃ f, ⌜Holds (X d) placed f⌝ ∗ oPts d f)

instance stRes_storable (d : Dev nD) : BI.Storable (upEmb : UEmb _ 𝕄) (stRes X d) := by unfold stRes; infer_instance
instance dnRes_storable (d : Dev nD) : BI.Storable (upEmb : UEmb _ 𝕄) (dnRes X d) := by unfold dnRes; infer_instance

/-- The payloads of the one SparseCore call; it has no tasks and consumes nothing of the launch's. -/
def P : (K (F := F)).Pay (nD := nD) (Val := Elt F) (Name := ℕ) (U := UU) where
  st := fun _ d _ => stRes X d
  dn := fun _ d _ => dnRes X d
  go := fun _ _ _ _ => iprop(emp)
  td := fun _ _ _ _ => iprop(emp)
  x := fun _ _ => iprop(emp)

instance P_storable : (P (F := F) X).IsStorable where
  st _ d c := by unfold P; infer_instance
  dn _ d c := by unfold P; infer_instance
  go _ _ _ _ := by unfold P; infer_instance
  td _ _ _ _ := by unfold P; infer_instance

/-- `body` between the payloads. -/
theorem body' (d : Dev nD) (c : Fin (grid0.bound 0)) (O : CellTallies nD τ sig (HIx 1)) (W : Waits sig (HIx 1)) (hO : ∀ g, O g none = 0) :
    iprop(levAts (K (F := F)).L (K (F := F)).lev ∗ emp ∗ stRes X d
        ∗ scopedBufs (S d (c.castLE hcore0)) ∗ scopedSems0 (S d (c.castLE hcore0)) ∗ owes (S d (c.castLE hcore0)) O W)
      ⊢ wp frame (wpE (defs₀ (F := F)) 𝒱₀ (S d (c.castLE hcore0)) none) Set.univ
          (cc0__gather_kernel (coordsS c) xW (Memref.isWhole_whole _) oW (Memref.isWhole_whole _) aW (Memref.isWhole_whole _) bW (Memref.isWhole_whole _) cc0_scoped0 cc0_scoped1)
          fun _ => iprop(dnRes X d ∗ scopedBufs (S d (c.castLE hcore0)) ∗ scopedSems0 (S d (c.castLE hcore0))
            ∗ ∃ W', ⌜∀ p ∈ W', p ∈ W ∨ p.2 = none ∨ p.2 = some (0 : Fin 1)⌝ ∗ owes (S d (c.castLE hcore0)) O W') := by
  have weak : iprop((xPts d (X d) ∗ ∃ f, ⌜Holds (X d) placed f⌝ ∗ oPts d f) ∗ scopedBufs (S d (c.castLE hcore0)) ∗ scopedSems0 (S d (c.castLE hcore0))
        ∗ ∃ W', ⌜∀ p ∈ W', p ∈ W ∨ p.2 = none⌝ ∗ owes (S d (c.castLE hcore0)) O W')
      ⊢ (iprop(dnRes X d ∗ scopedBufs (S d (c.castLE hcore0)) ∗ scopedSems0 (S d (c.castLE hcore0))
        ∗ ∃ W', ⌜∀ p ∈ W', p ∈ W ∨ p.2 = none ∨ p.2 = some (0 : Fin 1)⌝ ∗ owes (S d (c.castLE hcore0)) O W') : sProp 𝕄) := by
    unfold dnRes
    iintro ⟨H1, H2, H3, %W', %hW', HO⟩
    isplitl [H1]; · iexact H1
    isplitl [H2]; · iexact H2
    isplitl [H3]; · iexact H3
    iexists W'; isplitr
    · ipureintro; exact fun p hp => (hW' p hp).imp_right Or.inl
    · iexact HO
  unfold stRes
  iintro ⟨Hlv, -, ⟨Hx, %fo, Ho⟩, Hsb, Hss, HO⟩
  iapply ((body d c (X d) fo O W hO).trans (wp_mono frame _ _ fun _ => weak))
  isplitl [Hlv]; · iexact Hlv
  isplitl [Hx Ho]
  · isplitl [Hx] <;> iassumption
  isplitl [Hsb]; · iexact Hsb
  isplitl [Hss]; · iexact Hss
  iexact HO

theorem defs₀_scalar (c : Fin τ.nSC) :
    defs₀ (F := F) (.scScalar c) 0 ()
      = SparseCore.onCore hcore0 (fun c => cc0__gather_kernel (coordsS c) xW (Memref.isWhole_whole _) oW (Memref.isWhole_whole _) aW (Memref.isWhole_whole _)
          bW (Memref.isWhole_whole _) cc0_scoped0 cc0_scoped1) ⟨⟩ c := rfl

/-- The launch theorem's obligation at the one call. -/
theorem scalarObl : (K (F := F)).ScalarObl (D (F := F)) 𝒱 (P X) v₀ 0 := by
  intro d c O W hO _ _
  simp only [show (P X).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body' X d ⟨_, hc⟩ O W hO

end Cert.Proof

end
-- ==== Proof.Fmt.lean ====
/-
  The TensorCore kernel of `KernelIdeal` that cuts the gathered 64 words into the five results: its body, run once, leaves in each
  result's buffer an explicit function of the words.
-/
module

public import proofs.«01_k».proof.Proof.Gather
public import proofs.«01_k».proof.Proof.Gen.KernelIdeal.Launch
public import proofs.«01_k».proof.Proof.Gen.KernelIdeal.Points
public import Idealize.ShloMosaic.Lib.WritesUnit
public import Idealize.ShloMosaic.Lib.Pipeline.Value

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The results as functions of the gathered words -/

/-- Word `n` of the gathered buffer. -/
def word (p : S64.Idx → Elt F .f32) (n : ℕ) : Elt F .f32 := p (ixO (n % 64) (Nat.mod_lt _ (by decide)))

def out1 (p : S64.Idx → Elt F .f32) : S3.Idx → Elt F .f32 := fun i => word p (i 0).val
def out2 (p : S64.Idx → Elt F .f32) : S2x3.Idx → Elt F .f32 := fun i => word p (16 + 3 * (i 0).val + (i 1).val)
def out3 (p : S64.Idx → Elt F .f32) : S2x3.Idx → Elt F .f32 := fun i => word p (22 + 3 * (i 0).val + (i 1).val)
def out4 (p : S64.Idx → Elt F .f32) : S2x2x4.Idx → Elt F .f32 := fun i => word p (32 + 8 * (i 0).val + 4 * (i 1).val + (i 2).val)
def out5 (p : S64.Idx → Elt F .f32) : S2x2x3.Idx → Elt F .f32 := fun i => word p (48 + 6 * (i 0).val + 3 * (i 1).val + (i 2).val)

variable [FloatOps F]

local notation "w0" => (Memref.whole Cert.KernelIdeal.cc1_stg0_0 : Memref Cert.KernelIdeal.sig Kind.tc Space.vmem Cert.KernelIdeal.S64 EltTy.f32)
local notation "w1" => (Memref.whole Cert.KernelIdeal.cc1_stg1_0 : Memref Cert.KernelIdeal.sig Kind.tc Space.vmem Cert.KernelIdeal.S3 EltTy.f32)
local notation "w2" => (Memref.whole Cert.KernelIdeal.cc1_stg2_0 : Memref Cert.KernelIdeal.sig Kind.tc Space.vmem Cert.KernelIdeal.S2x3 EltTy.f32)
local notation "w3" => (Memref.whole Cert.KernelIdeal.cc1_stg3_0 : Memref Cert.KernelIdeal.sig Kind.tc Space.vmem Cert.KernelIdeal.S2x3 EltTy.f32)
local notation "w4" => (Memref.whole Cert.KernelIdeal.cc1_stg4_0 : Memref Cert.KernelIdeal.sig Kind.tc Space.vmem Cert.KernelIdeal.S2x2x4 EltTy.f32)
local notation "w5" => (Memref.whole Cert.KernelIdeal.cc1_stg5_0 : Memref Cert.KernelIdeal.sig Kind.tc Space.vmem Cert.KernelIdeal.S2x2x3 EltTy.f32)

/-! ## The stores read back -/

section ReadBack

variable {n : ℕ}

omit [FloatOps F] in
/-- Three words loaded at place `n`, read at `x`. -/
theorem load3 (p : S64.Idx → Elt F .f32) (h : ∀ a, (![n] : Fin 1 → ℕ) a + S3.size a ≤ S64.size a) (x : S3.Idx) (k : ℕ) (hk : k = n + (x 0).val) :
    View.readAt (Elt F) (w0).view (Rect.unit (s := S64) ![n] S3.size h).toLoadRect p x = word p k := by
  have hn : n + 3 ≤ 64 := h 0
  have hx : (x 0).val < 3 := (x 0).isLt
  show p _ = p _
  congr 1
  funext a; fin_cases a; apply Fin.ext
  show n + 1 * (x 0).val = k % 64
  rw [hk, Nat.mod_eq_of_lt (by omega)]; omega

omit [FloatOps F] in
/-- Four words loaded at place `n`, read at `x`. -/
theorem load4 (p : S64.Idx → Elt F .f32) (h : ∀ a, (![n] : Fin 1 → ℕ) a + S4.size a ≤ S64.size a) (x : S4.Idx) (k : ℕ) (hk : k = n + (x 0).val) :
    View.readAt (Elt F) (w0).view (Rect.unit (s := S64) ![n] S4.size h).toLoadRect p x = word p k := by
  have hn : n + 4 ≤ 64 := h 0
  have hx : (x 0).val < 4 := (x 0).isLt
  show p _ = p _
  congr 1
  funext a; fin_cases a; apply Fin.ext
  show n + 1 * (x 0).val = k % 64
  rw [hk, Nat.mod_eq_of_lt (by omega)]; omega

omit [FloatOps F] in
/-- The same three words as one row of a matrix. -/
theorem row3 (p : S64.Idx → Elt F .f32) (h : ∀ a, (![n] : Fin 1 → ℕ) a + S3.size a ≤ S64.size a) (x : S1x3.Idx) (k : ℕ) (hk : k = n + (x 1).val) :
    shapeCast S1x3 (View.readAt (Elt F) (w0).view (Rect.unit (s := S64) ![n] S3.size h).toLoadRect p) shapeCasts_S3_S1x3 x = word p k := by
  rw [shapeCast_apply _ _ x (fun | 0 => x 1 : S3.Idx)]
  · exact load3 p h _ k hk
  · have h0 : (x 0).val < 1 := (x 0).isLt
    rw [Shape.rowMajor_val_one, Shape.rowMajor_val_two]
    show (x 1).val = (x 0).val * 3 + (x 1).val
    omega

omit [FloatOps F] in
/-- The same three words as one row of one block. -/
theorem block3 (p : S64.Idx → Elt F .f32) (h : ∀ a, (![n] : Fin 1 → ℕ) a + S3.size a ≤ S64.size a) (x : S1x1x3.Idx) (k : ℕ) (hk : k = n + (x 2).val) :
    shapeCast S1x1x3 (View.readAt (Elt F) (w0).view (Rect.unit (s := S64) ![n] S3.size h).toLoadRect p) shapeCasts_S3_S1x1x3 x = word p k := by
  rw [shapeCast_apply _ _ x (fun | 0 => x 2 : S3.Idx)]
  · exact load3 p h _ k hk
  · have h0 : (x 0).val < 1 := (x 0).isLt
    have h1 : (x 1).val < 1 := (x 1).isLt
    rw [Shape.rowMajor_val_one, Shape.rowMajor_val_three]
    show (x 2).val = ((x 0).val * 1 + (x 1).val) * 3 + (x 2).val
    omega

omit [FloatOps F] in
/-- Four words as one row of one block. -/
theorem block4 (p : S64.Idx → Elt F .f32) (h : ∀ a, (![n] : Fin 1 → ℕ) a + S4.size a ≤ S64.size a) (x : S1x1x4.Idx) (k : ℕ) (hk : k = n + (x 2).val) :
    shapeCast S1x1x4 (View.readAt (Elt F) (w0).view (Rect.unit (s := S64) ![n] S4.size h).toLoadRect p) shapeCasts_S4_S1x1x4 x = word p k := by
  rw [shapeCast_apply _ _ x (fun | 0 => x 2 : S4.Idx)]
  · exact load4 p h _ k hk
  · have h0 : (x 0).val < 1 := (x 0).isLt
    have h1 : (x 1).val < 1 := (x 1).isLt
    rw [Shape.rowMajor_val_one, Shape.rowMajor_val_three]
    show (x 2).val = ((x 0).val * 1 + (x 1).val) * 4 + (x 2).val
    omega

/-- The first result: one store of all three words. -/
theorem stored1 (p : S64.Idx → Elt F .f32) (f : S3.Idx → Elt F .f32) :
    (w1).view.read (Elt F) ((w1).view.writes (Elt F) f
      [⟨Rect.unit ![0] S3.size inb_S3_S3_0, View.readAt (Elt F) (w0).view (Rect.unit (s := S64) ![0] S3.size inb_S64_S3_0).toLoadRect p⟩]) = out1 p := by
  funext y
  rw [View.read_writes_cons_unit_of_mem (w1).view f inb_S3_S3_0 _ _ y y rfl (fun a => by fin_cases a; exact (Nat.zero_add _).symm)]
  exact load3 p _ y _ (Nat.zero_add _).symm

/-- The second and third results: two rows of three words, the rows at places `n` and `n + 3`. -/
theorem stored2 (M : View sig .tc .vmem S2x3 .f32) (p : S64.Idx → Elt F .f32) (f : M.ty.Contents (Elt F)) (h0 : ∀ a, (![n] : Fin 1 → ℕ) a + S3.size a ≤ S64.size a)
    (h1 : ∀ a, (![n + 3] : Fin 1 → ℕ) a + S3.size a ≤ S64.size a) :
    M.read (Elt F) (M.writes (Elt F) f
      [⟨Rect.unit ![1, 0] S1x3.size inb_S2x3_S1x3_1_0,
          shapeCast S1x3 (View.readAt (Elt F) (w0).view (Rect.unit (s := S64) ![n + 3] S3.size h1).toLoadRect p) shapeCasts_S3_S1x3⟩,
        ⟨Rect.unit ![0, 0] S1x3.size inb_S2x3_S1x3_0_0,
          shapeCast S1x3 (View.readAt (Elt F) (w0).view (Rect.unit (s := S64) ![n] S3.size h0).toLoadRect p) shapeCasts_S3_S1x3⟩])
      = fun i => word p (n + 3 * (i 0).val + (i 1).val) := by
  funext y
  have hy0 : (y 0).val < 2 := (y 0).isLt
  have hy1 : (y 1).val < 3 := (y 1).isLt
  by_cases e : (y 0).val = 1
  · rw [View.read_writes_cons_unit_of_mem M f inb_S2x3_S1x3_1_0 _ _ y (fun | 0 => ⟨0, Nat.one_pos⟩ | 1 => y 1) rfl
      (fun a => by fin_cases a; exacts [e, (Nat.zero_add _).symm])]
    refine row3 p h1 _ _ ?_
    show n + 3 * (y 0).val + (y 1).val = n + 3 + (y 1).val
    omega
  · rw [View.read_writes_cons_unit_of_not_mem M f inb_S2x3_S1x3_1_0 _ _ y rfl 0 (.inl (by show (y 0).val < 1; omega)),
      View.read_writes_cons_unit_of_mem M f inb_S2x3_S1x3_0_0 _ _ y (fun | 0 => ⟨0, Nat.one_pos⟩ | 1 => y 1) rfl
        (fun a => by fin_cases a; exacts [by show (y 0).val = 0; omega, (Nat.zero_add _).symm])]
    refine row3 p h0 _ _ ?_
    show n + 3 * (y 0).val + (y 1).val = n + (y 1).val
    omega

/-- The fourth result: two by two rows of four words. -/
theorem stored4 (p : S64.Idx → Elt F .f32) (f : S2x2x4.Idx → Elt F .f32) :
    (w4).view.read (Elt F) ((w4).view.writes (Elt F) f
      [⟨Rect.unit ![1, 1, 0] S1x1x4.size inb_S2x2x4_S1x1x4_1_1_0,
          shapeCast S1x1x4 (View.readAt (Elt F) (w0).view (Rect.unit (s := S64) ![44] S4.size inb_S64_S4_44).toLoadRect p) shapeCasts_S4_S1x1x4⟩,
        ⟨Rect.unit ![1, 0, 0] S1x1x4.size inb_S2x2x4_S1x1x4_1_0_0,
          shapeCast S1x1x4 (View.readAt (Elt F) (w0).view (Rect.unit (s := S64) ![40] S4.size inb_S64_S4_40).toLoadRect p) shapeCasts_S4_S1x1x4⟩,
        ⟨Rect.unit ![0, 1, 0] S1x1x4.size inb_S2x2x4_S1x1x4_0_1_0,
          shapeCast S1x1x4 (View.readAt (Elt F) (w0).view (Rect.unit (s := S64) ![36] S4.size inb_S64_S4_36).toLoadRect p) shapeCasts_S4_S1x1x4⟩,
        ⟨Rect.unit ![0, 0, 0] S1x1x4.size inb_S2x2x4_S1x1x4_0_0_0,
          shapeCast S1x1x4 (View.readAt (Elt F) (w0).view (Rect.unit (s := S64) ![32] S4.size inb_S64_S4_32).toLoadRect p) shapeCasts_S4_S1x1x4⟩]) = out4 p := by
  funext y
  have hy0 : (y 0).val < 2 := (y 0).isLt
  have hy1 : (y 1).val < 2 := (y 1).isLt
  have hy2 : (y 2).val < 4 := (y 2).isLt
  by_cases e11 : (y 0).val = 1 ∧ (y 1).val = 1
  · have e : (y 0).val = 1 ∧ (y 1).val = 1 := by omega
    rw [View.read_writes_cons_unit_of_mem (w4).view f inb_S2x2x4_S1x1x4_1_1_0 _ _ y (fun | 0 => ⟨0, Nat.one_pos⟩ | 1 => ⟨0, Nat.one_pos⟩ | 2 => y 2) rfl
        (fun a => by fin_cases a; exacts [by show (y 0).val = 1; omega, by show (y 1).val = 1; omega, (Nat.zero_add _).symm])]
    refine block4 p inb_S64_S4_44 _ _ ?_
    show 32 + 8 * (y 0).val + 4 * (y 1).val + (y 2).val = 44 + (y 2).val
    omega
  by_cases e10 : (y 0).val = 1 ∧ (y 1).val = 0
  · have e : (y 0).val = 1 ∧ (y 1).val = 0 := by omega
    rw [View.read_writes_cons_unit_of_not_mem (w4).view f inb_S2x2x4_S1x1x4_1_1_0 _ _ y rfl 1 (.inl (by show (y 1).val < 1; omega)),
      View.read_writes_cons_unit_of_mem (w4).view f inb_S2x2x4_S1x1x4_1_0_0 _ _ y (fun | 0 => ⟨0, Nat.one_pos⟩ | 1 => ⟨0, Nat.one_pos⟩ | 2 => y 2) rfl
        (fun a => by fin_cases a; exacts [by show (y 0).val = 1; omega, by show (y 1).val = 0; omega, (Nat.zero_add _).symm])]
    refine block4 p inb_S64_S4_40 _ _ ?_
    show 32 + 8 * (y 0).val + 4 * (y 1).val + (y 2).val = 40 + (y 2).val
    omega
  by_cases e01 : (y 0).val = 0 ∧ (y 1).val = 1
  · have e : (y 0).val = 0 ∧ (y 1).val = 1 := by omega
    rw [View.read_writes_cons_unit_of_not_mem (w4).view f inb_S2x2x4_S1x1x4_1_1_0 _ _ y rfl 0 (.inl (by show (y 0).val < 1; omega)),
      View.read_writes_cons_unit_of_not_mem (w4).view f inb_S2x2x4_S1x1x4_1_0_0 _ _ y rfl 0 (.inl (by show (y 0).val < 1; omega)),
      View.read_writes_cons_unit_of_mem (w4).view f inb_S2x2x4_S1x1x4_0_1_0 _ _ y (fun | 0 => ⟨0, Nat.one_pos⟩ | 1 => ⟨0, Nat.one_pos⟩ | 2 => y 2) rfl
        (fun a => by fin_cases a; exacts [by show (y 0).val = 0; omega, by show (y 1).val = 1; omega, (Nat.zero_add _).symm])]
    refine block4 p inb_S64_S4_36 _ _ ?_
    show 32 + 8 * (y 0).val + 4 * (y 1).val + (y 2).val = 36 + (y 2).val
    omega
  · have e : (y 0).val = 0 ∧ (y 1).val = 0 := by omega
    rw [View.read_writes_cons_unit_of_not_mem (w4).view f inb_S2x2x4_S1x1x4_1_1_0 _ _ y rfl 0 (.inl (by show (y 0).val < 1; omega)),
      View.read_writes_cons_unit_of_not_mem (w4).view f inb_S2x2x4_S1x1x4_1_0_0 _ _ y rfl 0 (.inl (by show (y 0).val < 1; omega)),
      View.read_writes_cons_unit_of_not_mem (w4).view f inb_S2x2x4_S1x1x4_0_1_0 _ _ y rfl 1 (.inl (by show (y 1).val < 1; omega)),
      View.read_writes_cons_unit_of_mem (w4).view f inb_S2x2x4_S1x1x4_0_0_0 _ _ y (fun | 0 => ⟨0, Nat.one_pos⟩ | 1 => ⟨0, Nat.one_pos⟩ | 2 => y 2) rfl
        (fun a => by fin_cases a; exacts [by show (y 0).val = 0; omega, by show (y 1).val = 0; omega, (Nat.zero_add _).symm])]
    refine block4 p inb_S64_S4_32 _ _ ?_
    show 32 + 8 * (y 0).val + 4 * (y 1).val + (y 2).val = 32 + (y 2).val
    omega

/-- The fifth result: two by two rows of three words. -/
theorem stored5 (p : S64.Idx → Elt F .f32) (f : S2x2x3.Idx → Elt F .f32) :
    (w5).view.read (Elt F) ((w5).view.writes (Elt F) f
      [⟨Rect.unit ![1, 1, 0] S1x1x3.size inb_S2x2x3_S1x1x3_1_1_0,
          shapeCast S1x1x3 (View.readAt (Elt F) (w0).view (Rect.unit (s := S64) ![57] S3.size inb_S64_S3_57).toLoadRect p) shapeCasts_S3_S1x1x3⟩,
        ⟨Rect.unit ![1, 0, 0] S1x1x3.size inb_S2x2x3_S1x1x3_1_0_0,
          shapeCast S1x1x3 (View.readAt (Elt F) (w0).view (Rect.unit (s := S64) ![54] S3.size inb_S64_S3_54).toLoadRect p) shapeCasts_S3_S1x1x3⟩,
        ⟨Rect.unit ![0, 1, 0] S1x1x3.size inb_S2x2x3_S1x1x3_0_1_0,
          shapeCast S1x1x3 (View.readAt (Elt F) (w0).view (Rect.unit (s := S64) ![51] S3.size inb_S64_S3_51).toLoadRect p) shapeCasts_S3_S1x1x3⟩,
        ⟨Rect.unit ![0, 0, 0] S1x1x3.size inb_S2x2x3_S1x1x3_0_0_0,
          shapeCast S1x1x3 (View.readAt (Elt F) (w0).view (Rect.unit (s := S64) ![48] S3.size inb_S64_S3_48).toLoadRect p) shapeCasts_S3_S1x1x3⟩]) = out5 p := by
  funext y
  have hy0 : (y 0).val < 2 := (y 0).isLt
  have hy1 : (y 1).val < 2 := (y 1).isLt
  have hy2 : (y 2).val < 3 := (y 2).isLt
  by_cases e11 : (y 0).val = 1 ∧ (y 1).val = 1
  · have e : (y 0).val = 1 ∧ (y 1).val = 1 := by omega
    rw [View.read_writes_cons_unit_of_mem (w5).view f inb_S2x2x3_S1x1x3_1_1_0 _ _ y (fun | 0 => ⟨0, Nat.one_pos⟩ | 1 => ⟨0, Nat.one_pos⟩ | 2 => y 2) rfl
        (fun a => by fin_cases a; exacts [by show (y 0).val = 1; omega, by show (y 1).val = 1; omega, (Nat.zero_add _).symm])]
    refine block3 p inb_S64_S3_57 _ _ ?_
    show 48 + 6 * (y 0).val + 3 * (y 1).val + (y 2).val = 57 + (y 2).val
    omega
  by_cases e10 : (y 0).val = 1 ∧ (y 1).val = 0
  · have e : (y 0).val = 1 ∧ (y 1).val = 0 := by omega
    rw [View.read_writes_cons_unit_of_not_mem (w5).view f inb_S2x2x3_S1x1x3_1_1_0 _ _ y rfl 1 (.inl (by show (y 1).val < 1; omega)),
      View.read_writes_cons_unit_of_mem (w5).view f inb_S2x2x3_S1x1x3_1_0_0 _ _ y (fun | 0 => ⟨0, Nat.one_pos⟩ | 1 => ⟨0, Nat.one_pos⟩ | 2 => y 2) rfl
        (fun a => by fin_cases a; exacts [by show (y 0).val = 1; omega, by show (y 1).val = 0; omega, (Nat.zero_add _).symm])]
    refine block3 p inb_S64_S3_54 _ _ ?_
    show 48 + 6 * (y 0).val + 3 * (y 1).val + (y 2).val = 54 + (y 2).val
    omega
  by_cases e01 : (y 0).val = 0 ∧ (y 1).val = 1
  · have e : (y 0).val = 0 ∧ (y 1).val = 1 := by omega
    rw [View.read_writes_cons_unit_of_not_mem (w5).view f inb_S2x2x3_S1x1x3_1_1_0 _ _ y rfl 0 (.inl (by show (y 0).val < 1; omega)),
      View.read_writes_cons_unit_of_not_mem (w5).view f inb_S2x2x3_S1x1x3_1_0_0 _ _ y rfl 0 (.inl (by show (y 0).val < 1; omega)),
      View.read_writes_cons_unit_of_mem (w5).view f inb_S2x2x3_S1x1x3_0_1_0 _ _ y (fun | 0 => ⟨0, Nat.one_pos⟩ | 1 => ⟨0, Nat.one_pos⟩ | 2 => y 2) rfl
        (fun a => by fin_cases a; exacts [by show (y 0).val = 0; omega, by show (y 1).val = 1; omega, (Nat.zero_add _).symm])]
    refine block3 p inb_S64_S3_51 _ _ ?_
    show 48 + 6 * (y 0).val + 3 * (y 1).val + (y 2).val = 51 + (y 2).val
    omega
  · have e : (y 0).val = 0 ∧ (y 1).val = 0 := by omega
    rw [View.read_writes_cons_unit_of_not_mem (w5).view f inb_S2x2x3_S1x1x3_1_1_0 _ _ y rfl 0 (.inl (by show (y 0).val < 1; omega)),
      View.read_writes_cons_unit_of_not_mem (w5).view f inb_S2x2x3_S1x1x3_1_0_0 _ _ y rfl 0 (.inl (by show (y 0).val < 1; omega)),
      View.read_writes_cons_unit_of_not_mem (w5).view f inb_S2x2x3_S1x1x3_0_1_0 _ _ y rfl 1 (.inl (by show (y 1).val < 1; omega)),
      View.read_writes_cons_unit_of_mem (w5).view f inb_S2x2x3_S1x1x3_0_0_0 _ _ y (fun | 0 => ⟨0, Nat.one_pos⟩ | 1 => ⟨0, Nat.one_pos⟩ | 2 => y 2) rfl
        (fun a => by fin_cases a; exacts [by show (y 0).val = 0; omega, by show (y 1).val = 0; omega, (Nat.zero_add _).symm])]
    refine block3 p inb_S64_S3_48 _ _ ?_
    show 48 + 6 * (y 0).val + 3 * (y 1).val + (y 2).val = 48 + (y 2).val
    omega

end ReadBack

/-! ## The run -/

/-- The buffer of memref `M` on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body's run: the words are left as they were, the five results end at `out1 … out5` of them. -/
theorem fmt_run (c : Dev nD) (p : S64.Idx → Elt F .f32) (f1 : S3.Idx → Elt F .f32) (f2 f3 : S2x3.Idx → Elt F .f32) (f4 : S2x2x4.Idx → Elt F .f32)
    (f5 : S2x2x3.Idx → Elt F .f32) (E : Set ℕ) (Q : PUnit → sProp 𝕄) :
    iprop(pt c w0 p ∗ pt c w1 f1 ∗ pt c w2 f2 ∗ pt c w3 f3 ∗ pt c w4 f4 ∗ pt c w5 f5
        ∗ (iprop(pt c w0 p ∗ pt c w1 (out1 p) ∗ pt c w2 (out2 p) ∗ pt c w3 (out3 p) ∗ pt c w4 (out4 p) ∗ pt c w5 (out5 p)) -∗ Q ⟨⟩))
      ⊢ wp frame (wpE (defs₀ (F := F)) Variants.none c none) E
          (cc1__fmt_body w0 (Memref.isWhole_whole _) w1 (Memref.isWhole_whole _) w2 (Memref.isWhole_whole _) w3 (Memref.isWhole_whole _)
            w4 (Memref.isWhole_whole _) w5 (Memref.isWhole_whole _)) Q := by
  simp only [cc1__fmt_body_eq_skeleton]; unfold cc1__fmt_body_skel
  iintro ⟨H0, H1, H2, H3, H4, H5, Hk⟩
  sl_open_parts
  sl_exec
  sl_step
  iapply Hk
  rw [show out1 p = _ from (stored1 p f1).symm, show out2 p = _ from (stored2 (n := 16) (w2).view p f2 inb_S64_S3_16 inb_S64_S3_19).symm,
    show out3 p = _ from (stored2 (n := 22) (w3).view p f3 inb_S64_S3_22 inb_S64_S3_25).symm, show out4 p = _ from (stored4 p f4).symm, show out5 p = _ from (stored5 p f5).symm]
  isplitl [H0]; · iexact H0
  isplitl [H1]; · iexact H1
  isplitl [H2]; · iexact H2
  isplitl [H3]; · iexact H3
  isplitl [H4]; · iexact H4
  iexact H5

end Cert.Proof

end
-- ==== Proof.Region.lean ====
/-
  The TensorCore call of `KernelIdeal` as a region of the host program: the region's proof data at any contents of the buffers, and
  its run, which takes the words out of `main_v6` and leaves `out1 … out5` of them in the five results.
-/
module

public import proofs.«01_k».proof.Proof.Fmt
public import Idealize.ShloMosaic.Lib.Pipeline.ValueKit.Geometry

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef arrRefs)

variable {F : FTy → Type}

local notation "𝕄" => MT nD τ sig (HIx 1) (Elt F) ℕ UU ℕ

/-- The pipeline's rounds are the middle factor of the algebra. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-- A host array as a buffer of the device. -/
abbrev dr (r : Ref sig .tc) : DevRef τ sig := Proc.devRef .tc r

/-! ## The region's proof data -/

variable [FloatOps F]

/-- The proof data at contents `V` of the host arrays: the arrays enter at `V`; the body leaves the words' buffer as it found it and
    the five results' buffers at `out1 … out5` of the words; between the ends only the core's unstaged scoped buffers are held. -/
def dats (V : Valuation τ sig (Elt F)) (_ : Fin 1) (c : Dev nD) : Dat τ (Elt F) (HIx 1) ℕ UU ℕ cfg1 c where
  A w := V (dr (arrRef cfg1.spec w))
  after w _ := match w with
    | ⟨0, _⟩ => (V (dr main_v6) : S64.Idx → Elt F .f32)
    | ⟨1, _⟩ => out1 (V (dr main_v6) : S64.Idx → Elt F .f32)
    | ⟨2, _⟩ => out2 (V (dr main_v6) : S64.Idx → Elt F .f32)
    | ⟨3, _⟩ => out3 (V (dr main_v6) : S64.Idx → Elt F .f32)
    | ⟨4, _⟩ => out4 (V (dr main_v6) : S64.Idx → Elt F .f32)
    | ⟨5, _⟩ => out5 (V (dr main_v6) : S64.Idx → Elt F .f32)
  Φ _ := Pipeline.scopedRest (Ix := HIx 1) (Name := ℕ) (U := UU) (Lvl := ℕ) (Val := Elt F) spec1 c
  q _ := fullShare
  owed _ := 0

/-- The words' window holds the array's contents when the body runs. -/
theorem before_in (V : Valuation τ sig (Elt F)) (c : Dev nD) (d : (cfg1.win 0).block.Idx → Elt F (cfg1.win 0).elt) :
    (dats V 0 c).before 0 t1_0 d = (V (dr main_v6) : S64.Idx → Elt F .f32) := by
  unfold Dat.before
  rw [if_pos (fetch1_0 t1_0)]
  funext i
  refine congrArg (V (dr main_v6)) (funext fun a => Fin.ext ?_)
  fin_cases a
  show 0 * 64 + 1 * (i 0).val = (i 0).val
  omega

theorem body_obligation (V : Valuation τ sig (Elt F)) (c : Dev nD) :
    BodyObligation (dats V 0 c) (defs₀ (F := F)) Variants.none (none : HIx 1) Set.univ := fun t => by
  obtain rfl := fin_N1 t
  rw [bigSep_W1, bigSep_W1]
  simp only [owns_whole_eq]
  rw [show (dats V 0 c).Φ t1_0.succ = (dats V 0 c).Φ t1_0.castSucc from rfl,
    show (dats V 0 c).owesAt (none : HIx 1) t1_0.succ = (dats V 0 c).owesAt (none : HIx 1) t1_0.castSucc from rfl]
  iintro ⟨HΦ, Howes, ⟨%d0, %f0, %hf0, H0⟩, ⟨%d1, %f1, -, H1⟩, ⟨%d2, %f2, -, H2⟩, ⟨%d3, %f3, -, H3⟩, ⟨%d4, %f4, -, H4⟩, ⟨%d5, %f5, -, H5⟩⟩
  rw [before_in V c] at hf0
  subst hf0
  iapply (fmt_run c _ f1 f2 f3 f4 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; dsimp only [dats]
  isplitl [H1]; · iexists _; isplitr; swap; (· iexact H1); ipureintro; dsimp only [dats]
  isplitl [H2]; · iexists _; isplitr; swap; (· iexact H2); ipureintro; dsimp only [dats]
  isplitl [H3]; · iexists _; isplitr; swap; (· iexact H3); ipureintro; dsimp only [dats]
  isplitl [H4]; · iexists _; isplitr; swap; (· iexact H4); ipureintro; dsimp only [dats]
  iexists _; isplitr; swap; (· iexact H5); ipureintro; dsimp only [dats]

theorem share_eq (V : Valuation τ sig (Elt F)) (c : Dev nD) (w : Fin cfg1.W) : (dats V 0 c).share w = fullShare := by
  unfold Dat.share; split <;> rfl

/-! ## The arrays after the region -/

/-- The host arrays' contents after the region. -/
abbrev VR (V : Valuation τ sig (Elt F)) (c : Dev nD) : Valuation τ sig (Elt F) := Pipeline.afterRegion (dats V 0 c) V

theorem VR_1 (V : Valuation τ sig (Elt F)) (c : Dev nD) : VR V c (dr main_v7_0) = out1 (V (dr main_v6) : S64.Idx → Elt F .f32) :=
  (Pipeline.afterRegion_arr (dats V 0 c) V winFacts1.arr_inj 1).trans
    ((dats V 0 c).arrAt_eq_of_after_last 1 t1_0 (by decide +kernel) _ fun _ => rfl)
theorem VR_2 (V : Valuation τ sig (Elt F)) (c : Dev nD) : VR V c (dr main_v7_1) = out2 (V (dr main_v6) : S64.Idx → Elt F .f32) :=
  (Pipeline.afterRegion_arr (dats V 0 c) V winFacts1.arr_inj 2).trans
    ((dats V 0 c).arrAt_eq_of_after_last 2 t1_0 (by decide +kernel) _ fun _ => rfl)
theorem VR_3 (V : Valuation τ sig (Elt F)) (c : Dev nD) : VR V c (dr main_v7_2) = out3 (V (dr main_v6) : S64.Idx → Elt F .f32) :=
  (Pipeline.afterRegion_arr (dats V 0 c) V winFacts1.arr_inj 3).trans
    ((dats V 0 c).arrAt_eq_of_after_last 3 t1_0 (by decide +kernel) _ fun _ => rfl)
theorem VR_4 (V : Valuation τ sig (Elt F)) (c : Dev nD) : VR V c (dr main_v7_3) = out4 (V (dr main_v6) : S64.Idx → Elt F .f32) :=
  (Pipeline.afterRegion_arr (dats V 0 c) V winFacts1.arr_inj 4).trans
    ((dats V 0 c).arrAt_eq_of_after_last 4 t1_0 (by decide +kernel) _ fun _ => rfl)
theorem VR_5 (V : Valuation τ sig (Elt F)) (c : Dev nD) : VR V c (dr main_v7_4) = out5 (V (dr main_v6) : S64.Idx → Elt F .f32) :=
  (Pipeline.afterRegion_arr (dats V 0 c) V winFacts1.arr_inj 5).trans
    ((dats V 0 c).arrAt_eq_of_after_last 5 t1_0 (by decide +kernel) _ fun _ => rfl)

/-- An array of no window stays as it was. -/
theorem VR_off (V : Valuation τ sig (Elt F)) (c : Dev nD) (b : Ref sig .tc) (hb : ∀ w, arrRef spec1 w ≠ b) : VR V c (dr b) = V (dr b) :=
  Pipeline.afterRegion_keeps (dats V 0 c) V winFacts1.arr_inj (fun _ => rfl) b fun w h => absurd h (hb w)

/-! ## The region's run -/

abbrev adm (q : Fin 1) : (pcfgs (F := F) q).Adm := (cfgs q).toPCfg_adm

/-- All the host's unscoped arrays. -/
abbrev SU : Finset (DevRef τ sig) := Pipeline.ucRefs τ sig

theorem arrs_sub : arrRefs (τ := τ) spec1 ⊆ SU := Pipeline.arrRefs_sub_ucRefs spec1 (by decide)

abbrev pc : Fin 1 → Pipeline.PCfg sig Λ₀ (Elt F) := pcfgs

theorem arrs_sub' : arrRefs (τ := τ) (pc (F := F) 0).spec ⊆ SU := arrs_sub

/-- The invariant at the region's two ends is the core's unstaged scoped buffers. -/
theorem Φ_in (V : Valuation τ sig (Elt F)) (c : Dev nD) :
    iprop(Pipeline.scopedRest (Pipeline.pin (pc (F := F)) adm 0).spec c ∗ emp) ⊢ (dats V 0 c).Φ 0 := by
  show iprop(Pipeline.scopedRest (Ix := HIx 1) (Name := ℕ) (U := UU) (Lvl := ℕ) (Val := Elt F) spec1 c ∗ emp)
    ⊢ (Pipeline.scopedRest (Ix := HIx 1) (Name := ℕ) (U := UU) (Lvl := ℕ) (Val := Elt F) spec1 c : sProp 𝕄)
  exact sep_elim_left
theorem Φ_out (V : Valuation τ sig (Elt F)) (c : Dev nD) :
    (dats V 0 c).Φ (Fin.last (Pipeline.pin (pc (F := F)) adm 0).N) ⊢ iprop(Pipeline.scopedRest (Pipeline.pin (pc (F := F)) adm 0).spec c ∗ emp) := by
  show (Pipeline.scopedRest (Ix := HIx 1) (Name := ℕ) (U := UU) (Lvl := ℕ) (Val := Elt F) spec1 c : sProp 𝕄)
    ⊢ iprop(Pipeline.scopedRest (Ix := HIx 1) (Name := ℕ) (U := UU) (Lvl := ℕ) (Val := Elt F) spec1 c ∗ emp)
  iintro H
  isplitl; · iexact H
  iempintro

theorem cut : Pipeline.LevelCut (pc (F := F)) adm (none : HIx 1) (K (F := F)).L (K (F := F)).lev 0 (fun _ : Dev nD => 0) (fun _ => 0) :=
  ⟨fun _ _ _ => Finset.mem_univ _, fun _ _ _ => Nat.le_refl 0, fun _ _ _ h => absurd h (Nat.lt_irrefl 0)⟩

/-- The region's record: from every host array held at `V` to every host array held at `VR V`, nothing owed. -/
def seg (V : Valuation τ sig (Elt F)) :
    Pipeline.RegionSeg (pc (F := F)) (adm (F := F)) (dats V) (none : HIx 1) defs₀ Variants.none (K (F := F)).L (K (F := F)).lev 0 :=
  Pipeline.RegionSeg.ofHeldIn (pc (F := F)) adm (dats V) none defs₀ Variants.none (K (F := F)).L (K (F := F)).lev 0 (fun _ => 0)
    SU (fun _ => iprop(emp)) (fun _ => iprop(emp)) launch1.toP rfl (fun c => (body_obligation V c).loose)
    (fun _ _ => rfl) (fun _ => rfl) (share_eq V)
    (Φ_in V) (Φ_out V) (fun _ => 0) cut
    (fun _ => iprop(emp)) (fun _ => V) (fun _ _ => rfl)

/-- What the region is entered from, -/
theorem seg_pre (V : Valuation τ sig (Elt F)) (c : Dev nD) :
    iprop(StableHlo.held (c.tc : Thread nD τ) SU V ∗ ((∃ Wd, owes (c : Thread nD τ) 0 Wd) ∗ emp ∗ emp)) ⊢ (seg V).pre c :=
  Pipeline.RegionSeg.ofHeldIn_pre (pcs := pc (F := F)) (a := adm (F := F)) (p := (0 : Fin 1)) (D := fun _ => 0) (S := SU) (X := fun _ => iprop(emp)) (R := fun _ => iprop(emp))
    (W := fun _ => V) arrs_sub' c

/-- and what it leaves. -/
theorem seg_post (V : Valuation τ sig (Elt F)) (c : Dev nD) :
    (seg V).post c ⊢ iprop(StableHlo.held (c.tc : Thread nD τ) SU (VR V c) ∗ ((∃ Wd, owes (c : Thread nD τ) 0 Wd) ∗ emp ∗ emp)) :=
  Pipeline.RegionSeg.ofHeldIn_post (pcs := pc (F := F)) (a := adm (F := F)) (p := (0 : Fin 1)) (D := fun _ => 0) (S := SU) (Y := fun _ => iprop(emp)) (R := fun _ => iprop(emp))
    (W := fun _ => V) arrs_sub' c

/-- The call's run at the head of a program: from the region boundary, the host arrays at `V`, what the core recorded and the
    pipeline's ghost state, to the boundary, the host arrays at `VR V` and what the core recorded. -/
theorem region_run [∀ e, Nonempty (Elt F e)] (V : Valuation τ sig (Elt F)) (c : Dev nD) (Q : PUnit → sProp 𝕄) :
    iprop((iprop(boundary (c.tc : Thread nD τ) ∗ StableHlo.held (c.tc : Thread nD τ) SU (VR V c) ∗ ∃ Wd, owes (c : Thread nD τ) 0 Wd) -∗ Q ⟨⟩)
        ∗ boundary (c.tc : Thread nD τ) ∗ StableHlo.held (c.tc : Thread nD τ) SU V ∗ (∃ Wd, owes (c : Thread nD τ) 0 Wd)
        ∗ levAts (K (F := F)).L (K (F := F)).lev
        ∗ Pipeline.cellsGhost (Pipeline.pin (pc (F := F)) (adm (F := F))) EP 0 c ∗ Pipeline.toksInit (Pipeline.pin (pc (F := F)) (adm (F := F))) EP 0 c)
      ⊢ wp frame (wpE (D (F := F)) 𝒱 (c.tc : Thread nD τ) none) Set.univ
          (.op (.customCall (Pipeline.entry 0) ()) .ret) Q := by
  iintro ⟨Hk, Hb, Hheld, Ho, Hlev, Hc, Ht⟩
  iapply (Pipeline.RegionSeg.wp (pc (F := F)) (adm (F := F)) (dats V) (none : HIx 1) cellOf_inj EP defs₀ Variants.none (K (F := F)).L (K (F := F)).lev
    (seg V) c none (fun _ h => absurd h (by simp)) .ret Q)
  isplitl [Hk]
  · iintro ⟨Hb, Hp⟩
    ihave Hp' := (seg_post V c) $$ Hp
    icases Hp' with ⟨Hheld, Ho, -⟩
    rw [wp_ret]; imodintro
    iapply Hk
    isplitl [Hb]; · iexact Hb
    isplitl [Hheld]; · iexact Hheld
    iexact Ho
  isplitl [Hb]; · iexact Hb
  isplitl [Hheld Ho]
  · iapply (seg_pre V c)
    isplitl [Hheld]; · iexact Hheld
    isplitl [Ho]; · iexact Ho
    isplitl <;> iempintro
  isplitl [Hlev]; · iexact Hlev
  isplitl [Hc]; · iexact Hc
  iexact Ht

end Cert.Proof

end
-- ==== Proof.RefVal.lean ====
/-
  The five results of the reference as entries of its arguments: each lookup, at indices the program writes as constants, reads
  exactly the entries its table names, and no index is out of range, so nothing is filled in.
-/
module

public import proofs.«01_k».proof.Proof.Gen.ReferenceIdeal.Run

@[expose] public section

noncomputable section

namespace Cert.Proof

open Idealize.ShloMosaic Idealize.ShloMosaic.TcCoe Idealize.SL.Sem

/-! ## The lookups -/

section Lookups

variable {α : Type}

/-- Entries 2, 0, 1 of the flat array. -/
def take1 : (⟨1, ![3]⟩ : Shape).Idx → (⟨1, ![1048576]⟩ : Shape).Idx := fun i => fun
  | 0 => (![2, 0, 1] : Fin 3 → Fin 1048576) (i 0)

/-- Rows `[[0, 1], [1, 0], [0, 0]]` of the first two columns of the matrix. -/
def take2 : (⟨2, ![3, 2]⟩ : Shape).Idx → (⟨2, ![100000, 64]⟩ : Shape).Idx := fun i => fun
  | 0 => (![![0, 1], ![1, 0], ![0, 0]] : Fin 3 → Fin 2 → Fin 100000) (i 0) (i 1)
  | 1 => (i 1).castLE (by decide)

/-- Columns `[[1, 0, 2], [0, 2, 1]]` of the first two rows of the matrix. -/
def take3 : (⟨2, ![2, 3]⟩ : Shape).Idx → (⟨2, ![100000, 64]⟩ : Shape).Idx := fun i => fun
  | 0 => (i 0).castLE (by decide)
  | 1 => (![![1, 0, 2], ![0, 2, 1]] : Fin 2 → Fin 3 → Fin 64) (i 0) (i 1)

/-- Row 0 of the first two blocks, its first four entries, twice. -/
def take4 : (⟨3, ![2, 2, 4]⟩ : Shape).Idx → (⟨3, ![64, 2048, 128]⟩ : Shape).Idx := fun i => fun
  | 0 => (i 0).castLE (by decide)
  | 1 => (0 : Fin 2048)
  | 2 => (i 2).castLE (by decide)

/-- Column 0 of the first three rows of the first two blocks, twice. -/
def take5 : (⟨3, ![2, 3, 2]⟩ : Shape).Idx → (⟨3, ![64, 2048, 128]⟩ : Shape).Idx := fun i => fun
  | 0 => (i 0).castLE (by decide)
  | 1 => (i 1).castLE (by decide)
  | 2 => (0 : Fin 128)

/-- A masked lookup whose mask is set everywhere and whose starts name the entries `tk` is the array read at `tk`. -/
theorem masked {s si t : Shape} {w : ℕ} (d : GatherDims s si t) (x : s.Idx → α) (idx : IVec si w) (mask : IVec t 1) (fill : t.Idx → α)
    (tk : t.Idx → s.Idx) (hm : ∀ y, mask y = 1#1) (hi : ∀ y a, (d.operandIdx y idx a).val = (tk y a).val) :
    select mask (Host.gather d x idx) fill = fun y => x (tk y) := by
  funext y
  show Scalar.select (mask y) (x (d.operandIdx y idx)) (fill y) = x (tk y)
  rw [hm y, show d.operandIdx y idx = tk y from funext fun a => Fin.ext (hi y a)]
  rfl

/-- The same over a slice of the array, `tk` counted in the array. -/
theorem masked_slice {s₀ s si t : Shape} {w : ℕ} {off : Fin s₀.rank → ℕ} (h : s₀.Slices off s) (d : GatherDims s si t) (x : s₀.Idx → α) (idx : IVec si w)
    (mask : IVec t 1) (fill : t.Idx → α) (tk : t.Idx → s₀.Idx) (hm : ∀ y, mask y = 1#1)
    (hi : ∀ y a, off a + (d.operandIdx y idx (a.cast h.1.symm)).val = (tk y a).val) :
    select mask (Host.gather d (extractStridedSlice s off x h) idx) fill = fun y => x (tk y) := by
  funext y
  show Scalar.select (mask y) (x fun a => ⟨off a + (d.operandIdx y idx (a.cast h.1.symm)).val, _⟩) (fill y) = x (tk y)
  rw [hm y]
  show x _ = x _
  congr 1
  funext a
  exact Fin.ext (hi y a)

end Lookups

open Cert.ReferenceIdeal Cert.ReferenceIdeal.Gen

variable {F : FTy → Type} [FloatOps F]

/-- Every weakly fair run of the reference ends with its five results at the entries the tables name and its arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = (fun i => m ((c.tc : Thread nD τ).loc main_arg0) (take1 i))
      ∧ r.2.mem ((c.tc : Thread nD τ).loc main_v2) = (fun i => m ((c.tc : Thread nD τ).loc main_arg1) (take2 i))
      ∧ r.2.mem ((c.tc : Thread nD τ).loc main_v4) = (fun i => m ((c.tc : Thread nD τ).loc main_arg1) (take3 i))
      ∧ r.2.mem ((c.tc : Thread nD τ).loc main_v7) = (fun i => m ((c.tc : Thread nD τ).loc main_arg2) (take4 i))
      ∧ r.2.mem ((c.tc : Thread nD τ).loc main_v10) = (fun i => m ((c.tc : Thread nD τ).loc main_arg2) (take5 i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2, h3, h4, ha⟩ := h c
    refine ⟨h0.trans ?_, h1.trans ?_, h2.trans ?_, h3.trans ?_, h4.trans ?_, ha⟩
    · exact masked _ _ _ _ _ take1 (by decide) (by decide)
    · exact masked_slice _ _ _ _ _ _ take2 (by decide) (by decide)
    · exact masked_slice _ _ _ _ _ _ take3 (by decide) (by decide)
    · exact masked_slice _ _ _ _ _ _ take4 (by decide) (by decide)
    · exact masked_slice _ _ _ _ _ _ take5 (by decide) (by decide)) (Cert.ReferenceIdeal.Value.run m ρ)

end Cert.Proof

end
-- ==== Proof.Vals.lean ====
/-
  What the gathered words are in terms of the arguments: the packed window is the three slices end to end, so each word the table
  places is an entry of one argument, and the five results read from the words are the entries the reference looks up.
-/
module

public import proofs.«01_k».proof.Proof.Fmt
public import proofs.«01_k».proof.Proof.RefVal

@[expose] public section

noncomputable section

namespace Cert.Proof

open Cert.KernelIdeal Cert.KernelIdeal.Gen

open Idealize.ShloMosaic Idealize.ShloMosaic.TcCoe

variable {F : FTy → Type}

/-- The packed window's three pieces: the first 16 entries of the flat array, the matrix's top left 2 by 16 corner row by row, the
    stack's 2 by 3 by 16 corner row by row. -/
abbrev pieces (a0 : S1048576.Idx → Elt F .f32) (a1 : S100000x64.Idx → Elt F .f32) (a2 : S64x2048x128.Idx → Elt F .f32) :
    List ((s : Shape) × (s.Idx → Elt F .f32)) :=
  [⟨S16, extractStridedSlice S16 ![0] a0 slices_S1048576_S16_0⟩,
    ⟨S32, shapeCast S32 (extractStridedSlice S2x16 ![0, 0] a1 slices_S100000x64_S2x16_0_0) shapeCasts_S2x16_S32⟩,
    ⟨S96, shapeCast S96 (extractStridedSlice S2x3x16 ![0, 0, 0] a2 slices_S64x2048x128_S2x3x16_0_0_0) shapeCasts_S2x3x16_S96⟩]

/-- The packed window: the pieces end to end. -/
def packed (a0 : S1048576.Idx → Elt F .f32) (a1 : S100000x64.Idx → Elt F .f32) (a2 : S64x2048x128.Idx → Elt F .f32) : S144.Idx → Elt F .f32 :=
  concatenate S144 0 (pieces a0 a1 a2) concatenates_S16_S32_S96_S144_d0

section Packed

variable (a0 : S1048576.Idx → Elt F .f32) (a1 : S100000x64.Idx → Elt F .f32) (a2 : S64x2048x128.Idx → Elt F .f32)

/-- A word below 16 is an entry of the flat array, -/
theorem packed_a (s : ℕ) (hs : s < 144) (j : S1048576.Idx) (h0 : (j 0).val < 16) (e : s = (j 0).val) : packed a0 a1 a2 (ixX s hs) = a0 j := by
  subst e
  unfold packed
  refine (concatenate_apply_piece 0 (pieces a0 a1 a2) _ (ixX _ hs) 0 (by show 0 < 3; decide) S16 _ rfl rfl 0 rfl (fun | 0 => (⟨(j 0).val, h0⟩ : Fin 16)) (fun b hb => absurd (Subsingleton.elim _ _) hb)
    (Nat.zero_add _)).trans ?_
  refine extractStridedSlice_apply _ _ _ _ j fun a => ?_
  fin_cases a
  exact (Nat.zero_add _).symm

/-- one from 16 up to 48 an entry of the matrix's corner, -/
theorem packed_b (s : ℕ) (hs : s < 144) (j : S100000x64.Idx) (h0 : (j 0).val < 2) (h1 : (j 1).val < 16) (e : s = 16 + 16 * (j 0).val + (j 1).val) :
    packed a0 a1 a2 (ixX s hs) = a1 j := by
  subst e
  unfold packed
  refine (concatenate_apply_piece 0 (pieces a0 a1 a2) _ (ixX _ hs) 1 (by show 1 < 3; decide) S32 _ rfl rfl 16 rfl (fun | 0 => (⟨16 * (j 0).val + (j 1).val, by omega⟩ : Fin 32))
    (fun b hb => absurd (Subsingleton.elim _ _) hb) (Nat.add_assoc _ _ _).symm).trans ?_
  refine (shapeCast_apply _ _ _ (fun | 0 => (⟨(j 0).val, h0⟩ : Fin 2) | 1 => (⟨(j 1).val, h1⟩ : Fin 16) : S2x16.Idx) ?_).trans ?_
  · rw [Shape.rowMajor_val_one, Shape.rowMajor_val_two]
    show (j 0).val * 16 + (j 1).val = 16 * (j 0).val + (j 1).val
    omega
  refine extractStridedSlice_apply _ _ _ _ j fun a => ?_
  fin_cases a
  exacts [(Nat.zero_add _).symm, (Nat.zero_add _).symm]

/-- and one from 48 on an entry of the stack's corner. -/
theorem packed_c (s : ℕ) (hs : s < 144) (j : S64x2048x128.Idx) (h0 : (j 0).val < 2) (h1 : (j 1).val < 3) (h2 : (j 2).val < 16)
    (e : s = 48 + 48 * (j 0).val + 16 * (j 1).val + (j 2).val) : packed a0 a1 a2 (ixX s hs) = a2 j := by
  subst e
  unfold packed
  refine (concatenate_apply_piece 0 (pieces a0 a1 a2) _ (ixX _ hs) 2 (by show 2 < 3; decide) S96 _ rfl rfl 48 rfl (fun | 0 => (⟨48 * (j 0).val + 16 * (j 1).val + (j 2).val, by omega⟩ : Fin 96))
    (fun b hb => absurd (Subsingleton.elim _ _) hb) (by show 48 + (48 * (j 0).val + 16 * (j 1).val + (j 2).val) = 48 + 48 * (j 0).val + 16 * (j 1).val + (j 2).val; omega)).trans ?_
  refine (shapeCast_apply _ _ _ (fun | 0 => (⟨(j 0).val, h0⟩ : Fin 2) | 1 => (⟨(j 1).val, h1⟩ : Fin 3) | 2 => (⟨(j 2).val, h2⟩ : Fin 16) : S2x3x16.Idx) ?_).trans ?_
  · rw [Shape.rowMajor_val_one, Shape.rowMajor_val_three]
    show ((j 0).val * 3 + (j 1).val) * 16 + (j 2).val = 48 * (j 0).val + 16 * (j 1).val + (j 2).val
    omega
  refine extractStridedSlice_apply _ _ _ _ j fun a => ?_
  fin_cases a
  exacts [(Nat.zero_add _).symm, (Nat.zero_add _).symm, (Nat.zero_add _).symm]

end Packed

/-! ## The five results -/

theorem placed_lt : ∀ q ∈ placed, q.1 < 64 ∧ q.2 < 144 := by decide

/-- A word the table places is the window's word it names. -/
theorem word_placed {X : S144.Idx → Elt F .f32} {p : S64.Idx → Elt F .f32} (h : Holds X placed p) {n s : ℕ} (hm : (n, s) ∈ placed) :
    word p n = X (ixX s (placed_lt _ hm).2) := by
  have hn := (placed_lt _ hm).1
  refine Eq.trans ?_ (h _ hm hn (placed_lt _ hm).2)
  unfold word
  congr 1
  funext a
  fin_cases a
  exact Fin.ext (Nat.mod_eq_of_lt hn)

variable {a0 : S1048576.Idx → Elt F .f32} {a1 : S100000x64.Idx → Elt F .f32} {a2 : S64x2048x128.Idx → Elt F .f32} {p : S64.Idx → Elt F .f32}

theorem val1 (h : Holds (packed a0 a1 a2) placed p) : out1 p = fun i => a0 (take1 i) := by
  funext i
  have hm : ∀ i : S3.Idx, ((i 0).val, (take1 i 0).val) ∈ placed ∧ (take1 i 0).val < 16 := by decide
  exact (word_placed h (hm i).1).trans (packed_a a0 a1 a2 _ _ _ (hm i).2 rfl)

theorem val2 (h : Holds (packed a0 a1 a2) placed p) :
    transpose S3x2 [1, 0] (out2 p) transposes_S2x3_S3x2_1_0 = fun i => a1 (take2 i) := by
  funext i
  have hm : ∀ i : S3x2.Idx, (16 + 3 * (i 1).val + (i 0).val, 16 + 16 * (take2 i 0).val + (take2 i 1).val) ∈ placed
      ∧ (take2 i 0).val < 2 ∧ (take2 i 1).val < 16 := by decide
  refine (transpose_apply _ _ _ _ (fun | 0 => i 1 | 1 => i 0 : S2x3.Idx) fun b => ?_).trans ?_
  · fin_cases b <;> rfl
  exact (word_placed h (hm i).1).trans (packed_b a0 a1 a2 _ _ _ (hm i).2.1 (hm i).2.2 rfl)

theorem val3 (h : Holds (packed a0 a1 a2) placed p) : out3 p = fun i => a1 (take3 i) := by
  funext i
  have hm : ∀ i : S2x3.Idx, (22 + 3 * (i 0).val + (i 1).val, 16 + 16 * (take3 i 0).val + (take3 i 1).val) ∈ placed
      ∧ (take3 i 0).val < 2 ∧ (take3 i 1).val < 16 := by decide
  exact (word_placed h (hm i).1).trans (packed_b a0 a1 a2 _ _ _ (hm i).2.1 (hm i).2.2 rfl)

theorem val4 (h : Holds (packed a0 a1 a2) placed p) : out4 p = fun i => a2 (take4 i) := by
  funext i
  have hm : ∀ i : S2x2x4.Idx, (32 + 8 * (i 0).val + 4 * (i 1).val + (i 2).val, 48 + 48 * (take4 i 0).val + 16 * (take4 i 1).val + (take4 i 2).val) ∈ placed
      ∧ (take4 i 0).val < 2 ∧ (take4 i 1).val < 3 ∧ (take4 i 2).val < 16 := by decide
  exact (word_placed h (hm i).1).trans (packed_c a0 a1 a2 _ _ _ (hm i).2.1 (hm i).2.2.1 (hm i).2.2.2 rfl)

theorem val5 (h : Holds (packed a0 a1 a2) placed p) :
    transpose S2x3x2 [0, 2, 1] (out5 p) transposes_S2x2x3_S2x3x2_0_2_1 = fun i => a2 (take5 i) := by
  funext i
  have hm : ∀ i : S2x3x2.Idx, (48 + 6 * (i 0).val + 3 * (i 2).val + (i 1).val, 48 + 48 * (take5 i 0).val + 16 * (take5 i 1).val + (take5 i 2).val) ∈ placed
      ∧ (take5 i 0).val < 2 ∧ (take5 i 1).val < 3 ∧ (take5 i 2).val < 16 := by decide
  refine (transpose_apply _ _ _ _ (fun | 0 => i 0 | 1 => i 2 | 2 => i 1 : S2x2x3.Idx) fun b => ?_).trans ?_
  · fin_cases b <;> rfl
  exact (word_placed h (hm i).1).trans (packed_c a0 a1 a2 _ _ _ (hm i).2.1 (hm i).2.2.1 (hm i).2.2.2 rfl)

end Cert.Proof

end
-- ==== Proof.Main.lean ====
/-
  The host program of `KernelIdeal` from end to end: six host operations pack the window, the SparseCore call gathers the words, the
  TensorCore call cuts them into the five results, two transposes turn two of them; and its run under the launch, over any floats.
-/
module

public import proofs.«01_k».proof.Proof.Region
public import proofs.«01_k».proof.Proof.Vals

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (arrRef)

variable {F : FTy → Type} [FloatOps F]

local notation "𝕄" => MT nD τ sig (HIx 1) (Elt F) ℕ UU ℕ

/-! ## The host operations -/

abbrev opA : HloOp τ sig (Elt F) := StableHlo.unary main_arg0 main_v0 ((extractStridedSlice S16 ![0] · slices_S1048576_S16_0) : (⟨S1048576, .f32⟩ : BufTy).Contents (Elt F) → (⟨S16, .f32⟩ : BufTy).Contents (Elt F))
abbrev opB : HloOp τ sig (Elt F) := StableHlo.unary main_arg1 main_v1 ((extractStridedSlice S2x16 ![0, 0] · slices_S100000x64_S2x16_0_0) : (⟨S100000x64, .f32⟩ : BufTy).Contents (Elt F) → (⟨S2x16, .f32⟩ : BufTy).Contents (Elt F))
abbrev opC : HloOp τ sig (Elt F) := StableHlo.reshape main_v1 main_v2 (rfl : (.f32 : EltTy) = .f32) shapeCasts_S2x16_S32
abbrev opD : HloOp τ sig (Elt F) := StableHlo.unary main_arg2 main_v3 ((extractStridedSlice S2x3x16 ![0, 0, 0] · slices_S64x2048x128_S2x3x16_0_0_0) : (⟨S64x2048x128, .f32⟩ : BufTy).Contents (Elt F) → (⟨S2x3x16, .f32⟩ : BufTy).Contents (Elt F))
abbrev opE : HloOp τ sig (Elt F) := StableHlo.reshape main_v3 main_v4 (rfl : (.f32 : EltTy) = .f32) shapeCasts_S2x3x16_S96
abbrev opF : HloOp τ sig (Elt F) := StableHlo.nary ![main_v0, main_v2, main_v4] main_v5 (fun u => (concatenate S144 0 [⟨S16, (u 0 : (⟨S16, .f32⟩ : BufTy).Contents (Elt F))⟩, ⟨S32, (u 1 : (⟨S32, .f32⟩ : BufTy).Contents (Elt F))⟩, ⟨S96, (u 2 : (⟨S96, .f32⟩ : BufTy).Contents (Elt F))⟩] concatenates_S16_S32_S96_S144_d0 : (⟨S144, .f32⟩ : BufTy).Contents (Elt F)))
abbrev opG : HloOp τ sig (Elt F) := StableHlo.unary main_v7_1 main_v8 ((transpose S3x2 [1, 0] · transposes_S2x3_S3x2_1_0) : (⟨S2x3, .f32⟩ : BufTy).Contents (Elt F) → (⟨S3x2, .f32⟩ : BufTy).Contents (Elt F))
abbrev opH : HloOp τ sig (Elt F) := StableHlo.unary main_v7_4 main_v9 ((transpose S2x3x2 [0, 2, 1] · transposes_S2x2x3_S2x3x2_0_2_1) : (⟨S2x2x3, .f32⟩ : BufTy).Contents (Elt F) → (⟨S2x3x2, .f32⟩ : BufTy).Contents (Elt F))

/-- A host array is among the unscoped ones. -/
theorem mem_SU (r : Ref sig .tc) (h : (dr r).isScoped = false) : dr r ∈ SU :=
  Finset.mem_filter.mpr ⟨StableHlo.devRef_mem_tcRefs r, by simp [h]⟩

theorem subA : (opA (F := F)).bufs ⊆ SU := show ({dr main_arg0, dr main_v0} : Finset (DevRef τ sig)) ⊆ SU by decide +kernel
theorem subB : (opB (F := F)).bufs ⊆ SU := show ({dr main_arg1, dr main_v1} : Finset (DevRef τ sig)) ⊆ SU by decide +kernel
theorem subC : (opC (F := F)).bufs ⊆ SU := show ({dr main_v1, dr main_v2} : Finset (DevRef τ sig)) ⊆ SU by decide +kernel
theorem subD : (opD (F := F)).bufs ⊆ SU := show ({dr main_arg2, dr main_v3} : Finset (DevRef τ sig)) ⊆ SU by decide +kernel
theorem subE : (opE (F := F)).bufs ⊆ SU := show ({dr main_v3, dr main_v4} : Finset (DevRef τ sig)) ⊆ SU by decide +kernel
theorem subF : (opF (F := F)).bufs ⊆ SU := show insert (dr main_v5) (Finset.univ.image fun k => dr ((![main_v0, main_v2, main_v4] : Fin 3 → Ref sig .tc) k)) ⊆ SU by decide +kernel
theorem subG : (opG (F := F)).bufs ⊆ SU := show ({dr main_v7_1, dr main_v8} : Finset (DevRef τ sig)) ⊆ SU by decide +kernel
theorem subH : (opH (F := F)).bufs ⊆ SU := show ({dr main_v7_4, dr main_v9} : Finset (DevRef τ sig)) ⊆ SU by decide +kernel

/-! ## The arrays' contents along the program -/

variable (m : (ℓ : Loc nD τ sig) → Buf (Elt F) ℓ) (ρ : Dev nD → PrngReg)

/-- At launch; when the window is packed; -/
def V0 (d : Dev nD) : Valuation τ sig (Elt F) := fun b => m (d, b)
def V1 (d : Dev nD) : Valuation τ sig (Elt F) :=
  opF.result (opE.result (opD.result (opC.result (opB.result (opA.result (V0 m d))))))
/-- with the gathered words at `f`; after the region; -/
def V2 (d : Dev nD) (f : Buf (Elt F) (oLoc d)) : Valuation τ sig (Elt F) := Function.update (V1 m d) (dr main_v6) f
def V3 (d : Dev nD) (f : Buf (Elt F) (oLoc d)) : Valuation τ sig (Elt F) := VR (V2 m d f) d
/-- and at the end. -/
def V4 (d : Dev nD) (f : Buf (Elt F) (oLoc d)) : Valuation τ sig (Elt F) := opH.result (opG.result (V3 m d f))

abbrev a0 (d : Dev nD) : S1048576.Idx → Elt F .f32 := m ((d.tc : Thread nD τ).loc main_arg0)
abbrev a1 (d : Dev nD) : S100000x64.Idx → Elt F .f32 := m ((d.tc : Thread nD τ).loc main_arg1)
abbrev a2 (d : Dev nD) : S64x2048x128.Idx → Elt F .f32 := m ((d.tc : Thread nD τ).loc main_arg2)

theorem V1_v5 (d : Dev nD) : V1 m d (dr main_v5) = packed (a0 m d) (a1 m d) (a2 m d) := by
  unfold V1
  rw [StableHlo.nary_result]
  rfl

/-- The six operations leave the arguments alone. -/
theorem V1_arg (d : Dev nD) (r : Ref sig .tc) (h0 : r ≠ main_v0) (h1 : r ≠ main_v1) (h2 : r ≠ main_v2) (h3 : r ≠ main_v3) (h4 : r ≠ main_v4) (h5 : r ≠ main_v5) :
    V1 m d (dr r) = m ((d.tc : Thread nD τ).loc r) := by
  unfold V1
  rw [StableHlo.nary_result_ne (h := h5), StableHlo.reshape_result_ne (h := h4), StableHlo.unary_result_ne (h := h3),
    StableHlo.reshape_result_ne (h := h2), StableHlo.unary_result_ne (h := h1), StableHlo.unary_result_ne (h := h0)]
  rfl

theorem V2_v6 (d : Dev nD) (f : Buf (Elt F) (oLoc d)) : V2 m d f (dr main_v6) = f := Function.update_self _ _ _
theorem V2_ne (d : Dev nD) (f : Buf (Elt F) (oLoc d)) (b : DevRef τ sig) (h : b ≠ dr main_v6) : V2 m d f b = V1 m d b := Function.update_of_ne h _ _

theorem V4_ne (d : Dev nD) (f : Buf (Elt F) (oLoc d)) (r : Ref sig .tc) (h8 : r ≠ main_v8) (h9 : r ≠ main_v9) : V4 m d f (dr r) = V3 m d f (dr r) := by
  unfold V4
  rw [StableHlo.unary_result_ne (h := h9), StableHlo.unary_result_ne (h := h8)]

/-- What the claims say of the final contents `W` of device `d`'s arrays: the five results are the entries the reference looks up,
    and the three arguments are as at launch. -/
def Final (d : Dev nD) (W : Valuation τ sig (Elt F)) : Prop :=
  W (dr main_v7_0) = (fun i => a0 m d (take1 i))
    ∧ W (dr main_v8) = (fun i => a1 m d (take2 i))
    ∧ W (dr main_v7_2) = (fun i => a1 m d (take3 i))
    ∧ W (dr main_v7_3) = (fun i => a2 m d (take4 i))
    ∧ W (dr main_v9) = (fun i => a2 m d (take5 i))
    ∧ W (dr main_arg0) = a0 m d ∧ W (dr main_arg1) = a1 m d ∧ W (dr main_arg2) = a2 m d

/-- If the words are placed as the table says, the program's end is as claimed. -/
theorem final (d : Dev nD) (f : Buf (Elt F) (oLoc d)) (h : Holds (packed (a0 m d) (a1 m d) (a2 m d)) placed f) : Final m d (V4 m d f) := by
  refine ⟨?_, ?_, ?_, ?_, ?_, ?_, ?_, ?_⟩
  · rw [V4_ne m d f _ (by decide) (by decide)]; unfold V3; rw [VR_1, V2_v6]; exact val1 h
  · unfold V4; rw [StableHlo.unary_result_ne (h := by decide), StableHlo.unary_result]; unfold V3; rw [VR_2, V2_v6]; exact val2 h
  · rw [V4_ne m d f _ (by decide) (by decide)]; unfold V3; rw [VR_3, V2_v6]; exact val3 h
  · rw [V4_ne m d f _ (by decide) (by decide)]; unfold V3; rw [VR_4, V2_v6]; exact val4 h
  · unfold V4; rw [StableHlo.unary_result, StableHlo.unary_result_ne (h := by decide)]; unfold V3; rw [VR_5, V2_v6]; exact val5 h
  · rw [V4_ne m d f _ (by decide) (by decide)]; unfold V3
    rw [VR_off _ _ _ (by decide), V2_ne m d f _ (by decide), V1_arg m d _ (by decide) (by decide) (by decide) (by decide) (by decide) (by decide)]
  · rw [V4_ne m d f _ (by decide) (by decide)]; unfold V3
    rw [VR_off _ _ _ (by decide), V2_ne m d f _ (by decide), V1_arg m d _ (by decide) (by decide) (by decide) (by decide) (by decide) (by decide)]
  · rw [V4_ne m d f _ (by decide) (by decide)]; unfold V3
    rw [VR_off _ _ _ (by decide), V2_ne m d f _ (by decide), V1_arg m d _ (by decide) (by decide) (by decide) (by decide) (by decide) (by decide)]

/-- The window the SparseCore is handed. -/
abbrev X (d : Dev nD) : Buf (Elt F) (xLoc d) := packed (a0 m d) (a1 m d) (a2 m d)

/-! ## The call's arrays out of the held ones and back -/

abbrev SXO : Finset (DevRef τ sig) := {dr main_v5, dr main_v6}

theorem sxo_sub : SXO ⊆ SU := by decide +kernel

/-- The window and the words beside the other arrays. -/
theorem held_xo (d : Dev nD) (W : Valuation τ sig (Elt F)) :
    (held (T d) SU W : sProp 𝕄) = iprop((xPts d (W (dr main_v5)) ∗ oPts d (W (dr main_v6))) ∗ held (T d) (SU \ SXO) W) := by
  rw [StableHlo.held_sub_split (T d) sxo_sub W]
  congr 1
  unfold held
  rw [show SXO = insert (dr main_v5) {dr main_v6} from rfl, SparseCore.bigSep_insert' (by decide), bigSep_singleton]

theorem held_V2 (d : Dev nD) (f : Buf (Elt F) (oLoc d)) :
    (held (T d) SU (V2 m d f) : sProp 𝕄) = iprop((xPts d (X m d) ∗ oPts d f) ∗ held (T d) (SU \ SXO) (V1 m d)) := by
  rw [held_xo, V2_v6, V2_ne m d f (dr main_v5) (by decide), V1_v5,
    StableHlo.held_congr (T d) (S := SU \ SXO) (V := V2 m d f) (V' := V1 m d) fun b hb => V2_ne m d f b fun e => by
      subst e; exact absurd hb (by decide +kernel)]

theorem unscoped_held (d : Dev nD) : (unscopedBufs d (fun b => m ((SparseCore.T d).loc b)) : sProp 𝕄) = held (T d) SU (V0 m d) :=
  Pipeline.unscopedBufs_held d (V0 m d)

theorem st0_eq (d : Dev nD) : (bigSep Finset.univ fun c : Fin ((K (F := F)).nCore 0) => (P (X m)).st 0 d c) = stRes (X m) d :=
  bigSep_univ_of_subsingleton (0 : Fin 1)
theorem dn0_eq (d : Dev nD) : (bigSep Finset.univ fun c : Fin ((K (F := F)).nCore 0) => (P (X m)).dn 0 d c) = dnRes (X m) d :=
  bigSep_univ_of_subsingleton (0 : Fin 1)

/-! ## The program on one device's TensorCore -/

/-- The pipeline's ghost state for device `d`. -/
abbrev G (d : Dev nD) : sProp 𝕄 :=
  iprop(Pipeline.cellsGhost (Pipeline.pin (pc (F := F)) (adm (F := F))) EP 0 d ∗ Pipeline.toksInit (Pipeline.pin (pc (F := F)) (adm (F := F))) EP 0 d)

/-- What the program leaves: every host array, at contents the claims describe. -/
abbrev FIN (d : Dev nD) : sProp 𝕄 := iprop(∃ W, ⌜Final m d W⌝ ∗ held (T d) SU W)

/-- After the call the TensorCore owes nothing; whatever waits it records from then on are within bounds. -/
theorem tcSt_open (d : Dev nD) :
    ((K (F := F)).tcSt EH d 1 : sProp 𝕄)
      ⊢ iprop((∃ Wd, owes (T d) 0 Wd) ∗ ((∃ Wd, owes (T d) 0 Wd) -∗ (K (F := F)).tcSt EH d 1)) := by
  unfold SparseCore.Cfg.tcSt
  rw [show (K (F := F)).Otc d 1 = 0 from (K (F := F)).Otc_end d le_rfl]
  iintro ⟨⟨%W, -, HO⟩, Hrest⟩
  isplitl [HO]; · iexists W; iexact HO
  iintro ⟨%W', HO⟩
  isplitl [HO]
  · iexists W'
    isplitr
    · ipureintro
      exact fun p _ => match p with
        | (s, none) => Nat.zero_le _
        | (s, some q) => ((K (F := F)).lev_some_le _ q).trans (by have := q.isLt; show 8 * q.val + 7 ≤ 8 * 1; omega)
    · iexact HO
  · iexact Hrest

theorem hmain [∀ e, Nonempty (Elt F e)] (κ : GSem nD τ sig → ℕ) (d : Dev nD) :
    iprop((K (F := F)).ctx EH (P (X m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := opA) (S := SU) subA (V := V0 m d)) $$ [Hb Hheld]
  · isplitl [Hb] <;> iassumption
  iintro ⟨Hb, Hheld⟩; rw [wp_ret]; imodintro
  iapply (wp_hlo_within 𝒱 (SparseCore.T d) none Set.univ (op := opB) (S := SU) subB) $$ [Hb Hheld]
  · isplitl [Hb] <;> iassumption
  iintro ⟨Hb, Hheld⟩; rw [wp_ret]; imodintro
  iapply (wp_hlo_within 𝒱 (SparseCore.T d) none Set.univ (op := opC) (S := SU) subC) $$ [Hb Hheld]
  · isplitl [Hb] <;> iassumption
  iintro ⟨Hb, Hheld⟩; rw [wp_ret]; imodintro
  iapply (wp_hlo_within 𝒱 (SparseCore.T d) none Set.univ (op := opD) (S := SU) subD) $$ [Hb Hheld]
  · isplitl [Hb] <;> iassumption
  iintro ⟨Hb, Hheld⟩; rw [wp_ret]; imodintro
  iapply (wp_hlo_within 𝒱 (SparseCore.T d) none Set.univ (op := opE) (S := SU) subE) $$ [Hb Hheld]
  · isplitl [Hb] <;> iassumption
  iintro ⟨Hb, Hheld⟩; rw [wp_ret]; imodintro
  iapply (wp_hlo_within 𝒱 (SparseCore.T d) none Set.univ (op := opF) (S := SU) subF) $$ [Hb Hheld]
  · isplitl [Hb] <;> iassumption
  iintro ⟨Hb, Hheld⟩; rw [wp_ret]; imodintro
  -- the SparseCore call: the window and the words to the subcore and back
  ihave Hh := (show (held (T d) SU (opF.result (opE.result (opD.result (opC.result (opB.result (opA.result (V0 m d)))))))  : sProp 𝕄) ⊢ _ from Entails.of_eq ((held_xo (F := F) d (V1 m d)).trans (by rw [V1_v5]))) $$ Hheld
  icases Hh with ⟨⟨Hx, Ho⟩, Hrest⟩
  iapply ((K (F := F)).wp_run (D (F := F)) 𝒱 (EH := EH) (P := P (X m)) κ d 0) $$ [Hst Hx Ho Hb Hrest Hts HG]
  isplitr; · iexact Hctx
  isplitl [Hst]; · iexact Hst
  isplitl [Hx Ho]
  · rw [st0_eq]; unfold stRes
    isplitl [Hx]; · iexact Hx
    iexists _; iexact Ho
  iintro ⟨Hst, Hdn⟩
  ihave Hdn' := (Entails.of_eq (dn0_eq m d)) $$ Hdn
  unfold dnRes
  icases Hdn' with ⟨Hx, %f, %hf, Ho⟩
  ihave Hheld := (Entails.of_eq (held_V2 m d f).symm) $$ [Hx Ho Hrest]
  · isplitl [Hx Ho]
    · isplitl [Hx] <;> iassumption
    iexact Hrest
  -- the TensorCore call
  ihave Hlev := (SparseCore.Cfg.ctx_levAts κ) $$ Hctx
  ihave Hst' := (show ((K (F := F)).tcSt EH d ((0 : Fin 1).val + 1) : sProp 𝕄) ⊢ _ from tcSt_open (F := F) d) $$ Hst
  icases Hst' with ⟨Howes, Hback⟩
  icases HG with ⟨Hcg, Htk⟩
  iapply ((K (F := F)).wp_liftProg (D (F := F)) 𝒱 (SparseCore.T d) Set.univ none (.op (.customCall (Pipeline.entry 0) ()) .ret))
  iapply (region_run (V2 m d f) d)
  isplitr [Hb Hheld Howes Hcg Htk]
  swap
  · isplitl [Hb]; · iexact Hb
    isplitl [Hheld]; · iexact Hheld
    isplitl [Howes]; · iexact Howes
    isplitr; · iexact Hlev
    isplitl [Hcg] <;> iassumption
  iintro ⟨Hb, Hheld, Howes⟩
  ihave Hst := Hback $$ Howes
  -- the two transposes
  iapply (wp_hlo_within 𝒱 (SparseCore.T d) none Set.univ (op := opG) (S := SU) subG (V := VR (V2 m d f) d)) $$ [Hb Hheld]
  · isplitl [Hb] <;> iassumption
  iintro ⟨Hb, Hheld⟩; rw [wp_ret]; imodintro
  iapply (wp_hlo_within 𝒱 (SparseCore.T d) none Set.univ (op := opH) (S := SU) subH) $$ [Hb Hheld]
  · isplitl [Hb] <;> iassumption
  iintro ⟨Hb, Hheld⟩; rw [wp_ret]; imodintro; imodintro
  isplitl [Hst]; · iexact Hst
  isplitl [Hheld]
  · iexists (V4 m d f)
    isplitr
    · ipureintro; exact final m d f hf
    · iexact Hheld
  isplitl [Hb] <;> iassumption

/-! ## The launch -/

/-- The launch element: the handshakes' rounds, the pipeline's rounds, no transfer counted yet. -/
def u₀ : UU := (initOf (K (F := F)).hsCells (K (F := F)).hsToks,
  (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (X m)).x q thr) := by
  have e : ∀ Φ : Dev nD → Fin 1 → sProp 𝕄, (bigSep Finset.univ fun c => bigSep Finset.univ fun p => Φ c p) = bigSep Finset.univ fun c => Φ c 0 :=
    fun Φ => bigSep_congr fun c _ => bigSep_univ_of_subsingleton (0 : Fin 1)
  unfold u₀
  iintro Hu
  ihave H := (ownU_pair _ _) $$ Hu
  icases H with ⟨HH, HR⟩
  ihave HR' := (own_pair_emb embR _ _) $$ HR
  icases HR' with ⟨HP, -⟩
  ihave Hg := (show BI.own (((Emb.inl : Emb UP (UP × Counters)).trans (embR : Emb _ 𝕄)) _) ⊢ _ from Pipeline.fund_ghost cfgs (EP (F := F)) cellOf_inj) $$ HP
  imod Hg with ⟨Hc, Ht⟩
  imodintro
  isplitl [HH]; · iexact HH
  isplitl [Hc Ht]
  · unfold G
    rw [bigSep_sep']
    isplitl [Hc]
    · ihave Hc' := (Entails.of_eq (e fun c p => Pipeline.cellsGhost (Pipeline.pin (pc (F := F)) (adm (F := F))) EP p c)) $$ Hc
      iexact Hc'
    · ihave Ht' := (Entails.of_eq (e fun c p => Pipeline.toksInit (Pipeline.pin (pc (F := F)) (adm (F := F))) EP p c)) $$ Ht
      iexact Ht'
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro

/-- Held arrays are in the memory at their contents. -/
theorem held_read (d : Dev nD) (W : Valuation τ sig (Elt F)) (s' : Phys nD τ sig (Elt F)) :
    iprop(held (T d) SU W ∗ SI s') ⊢ (⌜∀ b ∈ SU, s'.mem.mem (d, b) = W b⌝ : sProp 𝕄) := by
  have one : ∀ b ∈ SU, iprop(held (T d) SU W ∗ SI s') ⊢ (⌜s'.mem.mem (d, b) = W b⌝ : sProp 𝕄) := by
    intro b hb
    refine (sep_mono (bigSep_elim hb) .rfl).trans ?_
    iintro ⟨Hx, HSI⟩
    ihave H := (SI_pointsTo_agree (st := s') (ℓ := ((d, b) : Loc nD τ sig)) (I := Finset.univ) (q := fullShare) (f := W b)) $$ [HSI Hx]
    · isplitl [HSI] <;> iassumption
    icases H with %hx
    ipureintro; exact funext fun i => hx i (Finset.mem_univ i)
  exact fun x hx b hb => one b hb x hx

/-- The claims' facts about the final memory of device `d`. -/
def fq (d : Dev nD) (s' : Phys nD τ sig (Elt F)) : Prop := Final m d fun b => s'.mem.mem (d, b)

theorem hfin (d : Dev nD) (s' : Phys nD τ sig (Elt F)) : iprop(FIN m d ∗ SI s') ⊢ (⌜fq m d s'⌝ : sProp 𝕄) := by
  iintro ⟨⟨%W, %hW, Hh⟩, HSI⟩
  ihave H := (held_read d W s') $$ [Hh HSI]
  · isplitl [Hh] <;> iassumption
  icases H with %h
  ipureintro
  obtain ⟨h0, h1, h2, h3, h4, h5, h6, h7⟩ := hW
  exact ⟨(h _ (mem_SU _ rfl)).trans h0, (h _ (mem_SU _ rfl)).trans h1, (h _ (mem_SU _ rfl)).trans h2, (h _ (mem_SU _ rfl)).trans h3,
    (h _ (mem_SU _ rfl)).trans h4, (h _ (mem_SU _ rfl)).trans h5, (h _ (mem_SU _ rfl)).trans h6, (h _ (mem_SU _ rfl)).trans h7⟩

/-- The post of a run: on every device the claims' facts, and every semaphore at zero. -/
def QC : PUnit × MemSt nD τ sig (Elt F) → Prop := fun r => (∀ c : Dev nD, Final m c fun b => r.2.mem (c, b)) ∧ r.2.sem = fun _ => 0

/-- Every weakly fair run of the mesh, from any memory with every semaphore at zero, ends in `QC`. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X m)) (A := ∅) launch_facts v₀
    (fun q _ => match q with | 0 => scalarObl (X m))
    (fun q hq => match q with | 0 => nomatch hq)
    (fun q hq => match q with | 0 => nomatch hq)
    m ρ main (fun d => G d) (FIN m) (u₀ (F := F)) (sep_elim_left.trans (hu₀ m)) (hmain m ρ) (fq m) (hfin m) (QC m) (fun _ h hz => ⟨h, hz⟩)

end Cert.Proof

end
-- ==== Proof.RefBits.lean ====
/-
  The reference on words: its five results are the same entries of its arguments. The lemmas on masked lookups are those of RefVal.lean.
-/
module

public import proofs.«01_k».proof.Proof.Gen.Reference.Run
public import proofs.«01_k».proof.Proof.RefVal
public import proofs.«01_k».proof.Defs

@[expose] public section

noncomputable section

namespace Cert.Proof

open Idealize.ShloMosaic Idealize.ShloMosaic.TcCoe Idealize.SL.Sem
open Cert.Reference Cert.Reference.Gen

/-- Every weakly fair run of the reference on words ends with its five results at the entries the tables name and its arguments unchanged. -/
theorem ref_run_bits (m : (ℓ : Loc nD τ sig) → Buf (Elt Bits) ℓ) (ρ : Dev nD → PrngReg) :
    θ_run (defs (F := Bits)) (onTc (τ := τ) (main (F := Bits))) ⟨m, fun _ => 0, ρ⟩ fun r => ∀ c : Dev nD,
      r.2.mem ((c.tc : Thread nD τ).loc main_v0) = (fun i => m ((c.tc : Thread nD τ).loc main_arg0) (take1 i))
      ∧ r.2.mem ((c.tc : Thread nD τ).loc main_v2) = (fun i => m ((c.tc : Thread nD τ).loc main_arg1) (take2 i))
      ∧ r.2.mem ((c.tc : Thread nD τ).loc main_v4) = (fun i => m ((c.tc : Thread nD τ).loc main_arg1) (take3 i))
      ∧ r.2.mem ((c.tc : Thread nD τ).loc main_v7) = (fun i => m ((c.tc : Thread nD τ).loc main_arg2) (take4 i))
      ∧ r.2.mem ((c.tc : Thread nD τ).loc main_v10) = (fun i => m ((c.tc : Thread nD τ).loc main_arg2) (take5 i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2, h3, h4, ha⟩ := h c
    refine ⟨h0.trans ?_, h1.trans ?_, h2.trans ?_, h3.trans ?_, h4.trans ?_, ha⟩
    · exact masked _ _ _ _ _ take1 (by decide) (by decide)
    · exact masked_slice _ _ _ _ _ _ take2 (by decide) (by decide)
    · exact masked_slice _ _ _ _ _ _ take3 (by decide) (by decide)
    · exact masked_slice _ _ _ _ _ _ take4 (by decide) (by decide)
    · exact masked_slice _ _ _ _ _ _ take5 (by decide) (by decide)) (Cert.Reference.Value.run m ρ)

end Cert.Proof

end
-- ==== Proof.SameText.lean ====
/-
  `Kernel` and `KernelIdeal` have the same text: read on words, their body tables are equal. So a run of the one is a run of the other.
-/
module

public import proofs.«01_k».proof.Defs
public import proofs.«01_k».proof.Proof.Gen.Kernel
public import proofs.«01_k».proof.Proof.Gen.KernelIdeal

@[expose] public section

noncomputable section

namespace Cert.Proof

open Idealize.ShloMosaic

/-- The kernels' bodies agree, processor by processor and label by label. -/
theorem bodies_eq : Cert.Kernel.defs₀ (F := Bits) = Cert.KernelIdeal.defs₀ (F := Bits) := by
  funext p ℓ a
  match p, ℓ, a with
  | .scScalar _, 0, _ => rfl
  | .scScalar _, 1, _ => rfl
  | .tc, 0, _ => rfl
  | .tc, 1, _ => rfl
  | .scVector _ _, 0, _ => rfl
  | .scVector _ _, 1, _ => rfl

/-- The body tables with the calls' own labels agree. -/
theorem defs_eq : Cert.Kernel.defs (F := Bits) = Cert.KernelIdeal.defs (F := Bits) :=
  congrArg (fun D => Cert.KernelIdeal.sc.defs (Pipeline.defs Cert.KernelIdeal.pcfgs D)) bodies_eq

/-- The programs the threads run agree. -/
theorem threads_eq : Cert.Kernel.threads (F := Bits) = Cert.KernelIdeal.threads (F := Bits) := rfl

end Cert.Proof

end
-- ==== Proof.lean ====
/-
  The proof of `Cert.Claim`. The kernel's run and the reference's run are each proved once, over any float values `F` (`run_main` in
  Proof/Main.lean, `ref_run` in Proof/RefVal.lean): both end with the same entries of the arguments in their five results. The claims
  are these two runs at `Ideal` and at `Bits`: the kernel's two programs have the same text (Proof/SameText.lean), and the reference's
  run on words is read off in Proof/RefBits.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Main
public import proofs.«01_k».proof.Proof.RefBits
public import proofs.«01_k».proof.Proof.SameText
public import Idealize.ShloMosaic.Lib.Quiescent

@[expose] public section

noncomputable section

namespace Cert.Proof

open Idealize.ShloMosaic Idealize.SL.Sem

/-! ## The frames -/

/-- The ideal kernel terminates, keeps its arguments and leaves every semaphore at zero. -/
theorem frame_kernelIdeal : Cert.quiescent_KernelIdeal := fun m ρ _ =>
  (θ_run Cert.KernelIdeal.defs _ _).mono (fun _ h => ⟨fun c => (h.1 c).2.2.2.2.2, h.2⟩) (run_main (F := Ideal) m ρ)

/-- So does the kernel on words: the same run at `Bits`. -/
theorem frame_kernel : Cert.quiescent_Kernel := fun m ρ _ => by
  rw [defs_eq, threads_eq]
  exact (θ_run (Cert.KernelIdeal.defs (F := Bits)) (Cert.KernelIdeal.threads (F := Bits)) ⟨m, fun _ => 0, ρ⟩).mono
    (fun _ h => ⟨fun c => (h.1 c).2.2.2.2.2, h.2⟩) (run_main (F := Bits) m ρ)

/-- The ideal reference terminates and keeps its arguments; it declares no semaphore. -/
theorem frame_referenceIdeal : Cert.quiescent_ReferenceIdeal := fun m ρ _ =>
  (θ_run Cert.ReferenceIdeal.defs _ _).mono (fun r h => ⟨fun c => (h c).2.2.2.2.2, sem_eq_zero_of_no_sems rfl r.2⟩) (ref_run (F := Ideal) m ρ)

/-- So does the reference on words. -/
theorem frame_reference : Cert.quiescent_Reference := fun m ρ _ =>
  (θ_run Cert.Reference.defs _ _).mono (fun r h => ⟨fun c => (h c).2.2.2.2.2, sem_eq_zero_of_no_sems rfl r.2⟩) (ref_run_bits m ρ)

/-! ## The values -/

/-- Over the extended reals, kernel and reference end with the same five results: the entries that the reference's tables name. -/
theorem value_ideal : Cert.algebraic_KernelIdeal_ReferenceIdeal := fun m g m' g' _ hm =>
  ⟨fun c i => a0 m c (take1 i), fun c i => a1 m c (take2 i), fun c i => a1 m c (take3 i), fun c i => a2 m c (take4 i),
    fun c i => a2 m c (take5 i),
    (θ_run Cert.KernelIdeal.defs _ _).mono (fun _ h => h.1) (run_main (F := Ideal) m g),
    (θ_run Cert.ReferenceIdeal.defs _ _).mono (fun _ h c => by
      obtain ⟨h0, h1, h2, h3, h4, ha⟩ := h c
      obtain ⟨e0, e1, e2⟩ := hm c
      rw [e0] at h0; rw [e1] at h1 h2; rw [e2] at h3 h4
      exact ⟨h0, h1, h2, h3, h4, ha⟩) (ref_run (F := Ideal) m' g')⟩

/-- On words they end with the same five results, bit for bit. -/
theorem value_bits : Cert.bitexact_Kernel_Reference := fun m g m' g' _ hm =>
  ⟨fun c i => a0 (F := Bits) m c (take1 i), fun c i => a1 (F := Bits) m c (take2 i), fun c i => a1 (F := Bits) m c (take3 i),
    fun c i => a2 (F := Bits) m c (take4 i), fun c i => a2 (F := Bits) m c (take5 i), by
      rw [defs_eq, threads_eq]
      exact (θ_run (Cert.KernelIdeal.defs (F := Bits)) (Cert.KernelIdeal.threads (F := Bits)) ⟨m, fun _ => 0, g⟩).mono
        (fun _ h => h.1) (run_main (F := Bits) m g),
    (θ_run Cert.Reference.defs _ _).mono (fun _ h c => by
      obtain ⟨h0, h1, h2, h3, h4, ha⟩ := h c
      obtain ⟨e0, e1, e2⟩ := hm c
      rw [e0] at h0; rw [e1] at h1 h2; rw [e2] at h3 h4
      exact ⟨h0, h1, h2, h3, h4, ha⟩) (ref_run_bits m' g')⟩

theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, value_ideal, value_bits⟩

end Cert.Proof

end
